-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x512 : Shape := ⟨3, ![16, 4096, 512]⟩
abbrev S512 : Shape := ⟨1, ![512]⟩
abbrev S_ : Shape := ⟨0, ![]⟩
abbrev S1x512 : Shape := ⟨2, ![1, 512]⟩
abbrev S4097x16x512 : Shape := ⟨3, ![4097, 16, 512]⟩
abbrev S8x256x512 : Shape := ⟨3, ![8, 256, 512]⟩
abbrev S256x8x512 : Shape := ⟨3, ![256, 8, 512]⟩
abbrev S8x512 : Shape := ⟨2, ![8, 512]⟩
abbrev S8x8x512 : Shape := ⟨3, ![8, 8, 512]⟩
abbrev S1x8x512 : Shape := ⟨3, ![1, 8, 512]⟩
abbrev S16x4097x512 : Shape := ⟨3, ![16, 4097, 512]⟩

abbrev nBuf : Space → Nat
  | .hbm => 27
  | .vmem => 16
  | .smem => 0
  | _ => 0

abbrev bufTy : (tb : Table) → Fin (tcTables nBuf tb) → BufTy
  | .hbm, ⟨0, _⟩ => ⟨S16x4096x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512, .i32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .i32⟩
  | .hbm, ⟨19, _⟩ => ⟨S4097x16x512, .f32⟩
  | .hbm, ⟨20, _⟩ => ⟨S4097x16x512, .i8⟩
  | .hbm, ⟨21, _⟩ => ⟨S16x4097x512, .f32⟩
  | .hbm, ⟨22, _⟩ => ⟨S16x4097x512, .i8⟩
  | .hbm, ⟨23, _⟩ => ⟨S_, .i8⟩
  | .hbm, ⟨24, _⟩ => ⟨S16x4097x512, .i8⟩
  | .hbm, ⟨25, _⟩ => ⟨S16x4097x512, .i1⟩
  | .hbm, ⟨26, _⟩ => ⟨S16x4097x512, .i1⟩
  | .local _ .vmem, ⟨0, _⟩ => ⟨S8x256x512, .f32⟩
  | .local _ .vmem, ⟨1, _⟩ => ⟨S8x256x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .i32⟩
  | .local _ .vmem, ⟨7, _⟩ => ⟨S256x8x512, .f32⟩
  | .local _ .vmem, ⟨8, _⟩ => ⟨S256x8x512, .f32⟩
  | .local _ .vmem, ⟨9, _⟩ => ⟨S256x8x512, .i8⟩
  | .local _ .vmem, ⟨10, _⟩ => ⟨S256x8x512, .i8⟩
  | .local _ .vmem, ⟨11, _⟩ => ⟨S256x8x512, .f32⟩
  | .local _ .vmem, ⟨12, _⟩ => ⟨S8x512, .f32⟩
  | .local _ .vmem, ⟨13, _⟩ => ⟨S8x512, .i32⟩
  | .local _ .vmem, ⟨14, _⟩ => ⟨S8x512, .f32⟩
  | .local _ .vmem, ⟨15, _⟩ => ⟨S8x512, .i32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c16_i32 : BitVec 32 := 16#32
  let v10 : BitVec 1 := Scalar.cmpi .slt arg1 c16_i32
  let v11 : BitVec 32 := Scalar.extui v10
  let c0_i32 : BitVec 32 := 0#32
  let v12 : BitVec 1 := Scalar.cmpi .ne v11 c0_i32
  v12

@[reducible] def k0_t1_loop : Scf.Loop 32 :=
  let c0_i32_183 : BitVec 32 := 0#32
  let c255_i32 : BitVec 32 := 255#32
  let v185 : BitVec 32 := Scalar.addi c0_i32_183 c255_i32
  let c1_i32 : BitVec 32 := 1#32
  ⟨c0_i32_183, v185, c1_i32⟩
def k0_off1 (k0_t1 : Fin k0_t1_loop.trips) : Fin 3 → Nat :=
  let c0_i32_183 : BitVec 32 := 0#32
  let c1_i32 : BitVec 32 := 1#32
  let arg15 : BitVec 32 := Scf.iv c0_i32_183 c1_i32 k0_t1
  let v237 : Index := Scalar.indexCast arg15
  let c0_202 : Index := 0#32
  let c0_203 : Index := 0#32
  ![v237.toNat, 0, 0]
def k0_off2 (k0_t1 : Fin k0_t1_loop.trips) : Fin 3 → Nat :=
  let c0_i32_183 : BitVec 32 := 0#32
  let c1_i32 : BitVec 32 := 1#32
  let arg15 : BitVec 32 := Scf.iv c0_i32_183 c1_i32 k0_t1
  let c1_i32_210 : BitVec 32 := 1#32
  let v275 : BitVec 32 := Scalar.addi arg15 c1_i32_210
  let v276 : Index := Scalar.indexCast v275
  let c0_211 : Index := 0#32
  let c0_212 : Index := 0#32
  ![v276.toNat, 0, 0]
def k0_cond3 (i : grid0.Coords) : BitVec 1 :=
  let arg1 : BitVec 32 := BitVec.ofNat 32 (i 1).val
  let c16_i32_9 : BitVec 32 := 16#32
  let v13 : BitVec 1 := Scalar.cmpi .eq arg1 c16_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x8x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x4096x512 : Shape := ⟨3, ![16, 4096, 512]⟩
abbrev S512 : Shape := ⟨1, ![512]⟩
abbrev S_ : Shape := ⟨0, ![]⟩
abbrev S4096x16x512 : Shape := ⟨3, ![4096, 16, 512]⟩
abbrev S16x512 : Shape := ⟨2, ![16, 512]⟩
abbrev S4096 : Shape := ⟨1, ![4096]⟩
abbrev S1x16x512 : Shape := ⟨3, ![1, 16, 512]⟩
abbrev S1 : Shape := ⟨1, ![1]⟩
abbrev S1x512 : Shape := ⟨2, ![1, 512]⟩
abbrev S16x1x512 : Shape := ⟨3, ![16, 1, 512]⟩
abbrev S16x4097x512 : Shape := ⟨3, ![16, 4097, 512]⟩

abbrev nBuf : Space → Nat
  | .hbm => 100
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512, .i32⟩
  | .hbm, ⟨14, _⟩ => ⟨S4096x16x512, .f32⟩
  | .hbm, ⟨15, _⟩ => ⟨S_, .i32⟩
  | .hbm, ⟨16, _⟩ => ⟨S16x512, .i32⟩
  | .hbm, ⟨17, _⟩ => ⟨S_, .f32⟩
  | .hbm, ⟨18, _⟩ => ⟨S16x512, .f32⟩
  | .hbm, ⟨19, _⟩ => ⟨S4096, .i32⟩
  | .hbm, ⟨20, _⟩ => ⟨S_, .f32⟩
  | .hbm, ⟨21, _⟩ => ⟨S4096x16x512, .f32⟩
  | .hbm, ⟨22, _⟩ => ⟨S_, .i1⟩
  | .hbm, ⟨23, _⟩ => ⟨S4096x16x512, .i1⟩
  | .hbm, ⟨24, _⟩ => ⟨S_, .i32⟩
  | .hbm, ⟨25, _⟩ => ⟨S4096x16x512, .f32⟩
  | .hbm, ⟨26, _⟩ => ⟨S4096, .i32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .i32⟩
  | .hbm, ⟨32, _⟩ => ⟨S_, .i32⟩
  | .hbm, ⟨33, _⟩ => ⟨S16x512, .i32⟩
  | .hbm, ⟨34, _⟩ => ⟨S16x512, .f32⟩
  | .hbm, ⟨35, _⟩ => ⟨S4096x16x512, .f32⟩
  | .hbm, ⟨36, _⟩ => ⟨S4096x16x512, .i1⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S1x16x512, .f32⟩
  | .hbm, ⟨42, _⟩ => ⟨S16x512, .f32⟩
  | .hbm, ⟨43, _⟩ => ⟨S1, .i32⟩
  | .hbm, ⟨44, _⟩ => ⟨S_, .i32⟩
  | .hbm, ⟨45, _⟩ => ⟨S1x512, .f32⟩
  | .hbm, ⟨46, _⟩ => ⟨S16x512, .f32⟩
  | .hbm, ⟨47, _⟩ => ⟨S16x512, .f32⟩
  | .hbm, ⟨48, _⟩ => ⟨S_, .i32⟩
  | .hbm, ⟨49, _⟩ => ⟨S_, .i1⟩
  | .hbm, ⟨50, _⟩ => ⟨S16x512, .f32⟩
  | .hbm, ⟨51, _⟩ => ⟨S_, .f32⟩
  | .hbm, ⟨52, _⟩ => ⟨S16x512, .f32⟩
  | .hbm, ⟨53, _⟩ => ⟨S16x512, .f32⟩
  | .hbm, ⟨54, _⟩ => ⟨S16x512, .f32⟩
  | .hbm, ⟨55, _⟩ => ⟨S16x512, .f32⟩
  | .hbm, ⟨56, _⟩ => ⟨S16x512, .f32⟩
  | .hbm, ⟨57, _⟩ => ⟨S1x512, .f32⟩
  | .hbm, ⟨58, _⟩ => ⟨S16x512, .f32⟩
  | .hbm, ⟨59, _⟩ => ⟨S16x512, .f32⟩
  | .hbm, ⟨60, _⟩ => ⟨S1x512, .f32⟩
  | .hbm, ⟨61, _⟩ => ⟨S16x512, .f32⟩
  | .hbm, ⟨62, _⟩ => ⟨S16x512, .f32⟩
  | .hbm, ⟨63, _⟩ => ⟨S_, .i32⟩
  | .hbm, ⟨64, _⟩ => ⟨S16x512, .i32⟩
  | .hbm, ⟨65, _⟩ => ⟨S16x512, .i1⟩
  | .hbm, ⟨66, _⟩ => ⟨S16x512, .i1⟩
  | .hbm, ⟨67, _⟩ => ⟨S1x512, .f32⟩
  | .hbm, ⟨68, _⟩ => ⟨S16x512, .f32⟩
  | .hbm, ⟨69, _⟩ => ⟨S16x512, .f32⟩
  | .hbm, ⟨70, _⟩ => ⟨S16x512, .f32⟩
  | .hbm, ⟨71, _⟩ => ⟨S1x512, .f32⟩
  | .hbm, ⟨72, _⟩ => ⟨S16x512, .f32⟩
  | .hbm, ⟨73, _⟩ => ⟨S16x512, .i1⟩
  | .hbm, ⟨74, _⟩ => ⟨S16x512, .i1⟩
  | .hbm, ⟨75, _⟩ => ⟨S16x512, .i1⟩
  | .hbm, ⟨76, _⟩ => ⟨S16x512, .f32⟩
  | .hbm, ⟨77, _⟩ => ⟨S16x512, .f32⟩
  | .hbm, ⟨78, _⟩ => ⟨S_, .i32⟩
  | .hbm, ⟨79, _⟩ => ⟨S16x512, .i32⟩
  | .hbm, ⟨80, _⟩ => ⟨S16x512, .i32⟩
  | .hbm, ⟨81, _⟩ => ⟨S16x512, .i32⟩
  | .hbm, ⟨82, _⟩ => ⟨S16x512, .i32⟩
  | .hbm, ⟨83, _⟩ => ⟨S16x512, .i32⟩
  | .hbm, ⟨84, _⟩ => ⟨S1x16x512, .f32⟩
  | .hbm, ⟨85, _⟩ => ⟨S_, .i32⟩
  | .hbm, ⟨86, _⟩ => ⟨S_, .i32⟩
  | .hbm, ⟨87, _⟩ => ⟨S4096x16x512, .f32⟩
  | .hbm, ⟨88, _⟩ => ⟨S1x16x512, .i1⟩
  | .hbm, ⟨89, _⟩ => ⟨S_, .i32⟩
  | .hbm, ⟨90, _⟩ => ⟨S_, .i32⟩
  | .hbm, ⟨91, _⟩ => ⟨S4096x16x512, .i1⟩
  | .hbm, ⟨92, _⟩ => ⟨S_, .i32⟩
  | .hbm, ⟨93, _⟩ => ⟨S_, .i32⟩
  | .hbm, ⟨94, _⟩ => ⟨S16x1x512, .f32⟩
  | .hbm, ⟨95, _⟩ => ⟨S16x4096x512, .f32⟩
  | .hbm, ⟨96, _⟩ => ⟨S16x4097x512, .f32⟩
  | .hbm, ⟨97, _⟩ => ⟨S16x4096x512, .i1⟩
  | .hbm, ⟨98, _⟩ => ⟨S16x1x512, .i1⟩
  | .hbm, ⟨99, _⟩ => ⟨S16x4097x512, .i1⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_c_4 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev main_v12_6 : Ref sig .tc := ⟨.hbm, 31, rfl⟩
abbrev main_v12_7 : Ref sig .tc := ⟨.hbm, 32, rfl⟩
abbrev main_v12_8 : Ref sig .tc := ⟨.hbm, 33, rfl⟩
abbrev main_v12_9 : Ref sig .tc := ⟨.hbm, 34, rfl⟩
abbrev main_v12_10 : Ref sig .tc := ⟨.hbm, 35, rfl⟩
abbrev main_v12_11 : Ref sig .tc := ⟨.hbm, 36, rfl⟩
abbrev main_while0c_c_16 : Ref sig .tc := ⟨.hbm, 37, rfl⟩
abbrev main_while0c_v19 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_v0 : Ref sig .tc := ⟨.hbm, 41, rfl⟩
abbrev main_while0b_v19 : Ref sig .tc := ⟨.hbm, 42, rfl⟩
abbrev main_while0b_call1_v0 : Ref sig .tc := ⟨.hbm, 43, rfl⟩
abbrev main_while0b_v20 : Ref sig .tc := ⟨.hbm, 44, rfl⟩
abbrev main_while0b_v21 : Ref sig .tc := ⟨.hbm, 45, rfl⟩
abbrev main_while0b_v22 : Ref sig .tc := ⟨.hbm, 46, rfl⟩
abbrev main_while0b_v23 : Ref sig .tc := ⟨.hbm, 47, rfl⟩
abbrev main_while0b_c_16 : Ref sig .tc := ⟨.hbm, 48, rfl⟩
abbrev main_while0b_v24 : Ref sig .tc := ⟨.hbm, 49, rfl⟩
abbrev main_while0b_v25 : Ref sig .tc := ⟨.hbm, 50, rfl⟩
abbrev main_while0b_cst_17 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_v35 : Ref sig .tc := ⟨.hbm, 61, rfl⟩
abbrev main_while0b_v36 : Ref sig .tc := ⟨.hbm, 62, rfl⟩
abbrev main_while0b_c_18 : Ref sig .tc := ⟨.hbm, 63, rfl⟩
abbrev main_while0b_v37 : Ref sig .tc := ⟨.hbm, 64, rfl⟩
abbrev main_while0b_v38 : Ref sig .tc := ⟨.hbm, 65, rfl⟩
abbrev main_while0b_v39 : Ref sig .tc := ⟨.hbm, 66, rfl⟩
abbrev main_while0b_v40 : Ref sig .tc := ⟨.hbm, 67, rfl⟩
abbrev main_while0b_v41 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_call3_v0 : Ref sig .tc := ⟨.hbm, 76, rfl⟩
abbrev main_while0b_v49 : Ref sig .tc := ⟨.hbm, 77, rfl⟩
abbrev main_while0b_c_19 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_call5_v0 : Ref sig .tc := ⟨.hbm, 82, rfl⟩
abbrev main_while0b_v53 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_v54 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_v55 : Ref sig .tc := ⟨.hbm, 91, rfl⟩
abbrev main_while0b_c_20 : Ref sig .tc := ⟨.hbm, 92, rfl⟩
abbrev main_while0b_v56 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩

abbrev nD : Nat := 1
abbrev τ : Topo := Topo.v7x

variable {F : FTy → Type} [FloatOps F]

abbrev main_while0_count : Scf.Loop 32 := ⟨0#32, 4096#32, 1#32⟩
-- ==== Proof.Lane.lean ====
module

public import Idealize.ShloMosaic.PureOps

@[expose] public section

/-! One neuron of the recurrence, apart from any program: its constants, its drive over time, and the recursion the
kernel carries out on it. Every value is written with the programs' own scalar operations. -/

set_option maxRecDepth 16384

noncomputable section

namespace Cert.Lane

open Idealize.ShloMosaic

variable {F : FTy → Type} [FloatOps F]

/-- What one neuron (one batch row, one feature) is given: the bias voltage, the coupling, the threshold, the gain, the
number of refractory steps, and its drive at each time. -/
structure Lane (F : FTy → Type) where
  vb : F .f32
  a : F .f32
  th : F .f32
  g : F .f32
  rs : BitVec 32
  x : ℕ → F .f32

namespace Lane

variable (L : Lane F)

/-- The smoothing factor. -/
abbrev alpha : F .f32 := FloatOps.ofBits .f32 0x3A83126F#32

/-- The scaled drive at time `t`. -/
def drive (t : ℕ) : F .f32 := FloatOps.mulf (L.x t) L.g

/-- The running mean moved one step towards the drive at time `t`. -/
def smooth (t : ℕ) (e : F .f32) : F .f32 :=
  FloatOps.addf e (FloatOps.mulf alpha (FloatOps.subf (L.drive t) e))

/-- The candidate voltage at time `t`, off a running mean. -/
def cand (t : ℕ) (e : F .f32) : F .f32 := FloatOps.subf L.vb (FloatOps.mulf L.a (FloatOps.subf (L.drive t) e))

/-- Whether a refractory count is still running. -/
def inRef (r : BitVec 32) : BitVec 1 := IntOp.cmpi .sgt r 0#32

/-- Whether the neuron fires at time `t`, off the new running mean and the count. -/
def fires (t : ℕ) (e : F .f32) (r : BitVec 32) : BitVec 1 :=
  IntOp.andi (IntOp.xori (inRef r) 1#1) <| FloatOps.cmpf .oge (FloatOps.absf (FloatOps.subf (L.cand t e) L.vb)) L.th

/-- The voltage after time `t`, off the new running mean and the count. -/
def volt (t : ℕ) (e : F .f32) (r : BitVec 32) : F .f32 :=
  Scalar.select (IntOp.ori (inRef r) (L.fires t e r)) L.vb (L.cand t e)

/-- The refractory count after time `t`. -/
def count (t : ℕ) (e : F .f32) (r : BitVec 32) : BitVec 32 :=
  Scalar.select (L.fires t e r) L.rs (Scalar.select (inRef r) (IntOp.subi r 1#32) r)

/-- The state (running mean, refractory count) before time `t`. -/
def st : ℕ → F .f32 × BitVec 32
  | 0 => (L.drive 0, 0#32)
  | t + 1 => (L.smooth t (st t).1, L.count t (L.smooth t (st t).1) (st t).2)

/-- The firing bit at time `t`. -/
def spk (t : ℕ) : BitVec 1 := L.fires t (L.smooth t (L.st t).1) (L.st t).2

/-- The voltage at time `t`: the bias at first, then what each step leaves. -/
def va : ℕ → F .f32
  | 0 => L.vb
  | t + 1 => L.volt t (L.smooth t (L.st t).1) (L.st t).2

end Lane

end Cert.Lane

end
-- ==== Proof.K.Pay.lean ====
module

public import proofs.«01_k».proof.Proof.Gen.KernelIdeal.Skeleton
public import proofs.«01_k».proof.Proof.Lane
public import Idealize.ShloMosaic.Lib.Pointwise

@[expose] public section

/-! What the kernel's vector expressions are worth at one neuron: each value it stores or carries, when its operands are
the state before time `t`, is the state of the recursion after that time. -/

set_option maxRecDepth 16384

noncomputable section

namespace Cert.KernelIdeal.Hand

open Idealize.ShloMosaic Idealize.ShloMosaic.TcCoe
open Cert.KernelIdeal.Gen Cert.Lane

variable {F : FTy → Type} [FloatOps F]

/-- The block's constants `v1 v3 v5 v7 v9` (one row, a column per feature) are those of the neurons `Ln`. -/
structure Fits (Ln : Fin 8 → Fin 512 → Lane F) (v1 v3 v5 v7 : FVec F S1x512 .f32) (v9 : IVec S1x512 32) : Prop where
  vb : ∀ b f, v1 (ix2 0 f) = (Ln b f).vb
  a : ∀ b f, v3 (ix2 0 f) = (Ln b f).a
  th : ∀ b f, v5 (ix2 0 f) = (Ln b f).th
  g : ∀ b f, v7 (ix2 0 f) = (Ln b f).g
  rs : ∀ b f, v9 (ix2 0 f) = (Ln b f).rs

/-- The running means of the block before time `t`. -/
def emaAt (Ln : Fin 8 → Fin 512 → Lane F) (t : ℕ) : Vec F S8x512 .f32 := fun j => ((Ln (j 0) (j 1)).st t).1
/-- The refractory counts of the block before time `t`. -/
def cntAt (Ln : Fin 8 → Fin 512 → Lane F) (t : ℕ) : Vec F S8x512 .i32 := fun j => ((Ln (j 0) (j 1)).st t).2
/-- The voltages of the block at time `t`. -/
def vaAt (Ln : Fin 8 → Fin 512 → Lane F) (t : ℕ) : Vec F S8x512 .f32 := fun j => (Ln (j 0) (j 1)).va t
/-- The firing bits of the block at time `t`, each as a word. -/
def spkAt (Ln : Fin 8 → Fin 512 → Lane F) (t : ℕ) : Vec F S8x512 .i32 := fun j => BitVec.setWidth 32 ((Ln (j 0) (j 1)).spk t)
/-- The voltages of the block over the 256 times from `T`. -/
def vaBlk (Ln : Fin 8 → Fin 512 → Lane F) (T : ℕ) : Vec F S256x8x512 .f32 := fun y => (Ln (y 1) (y 2)).va (T + (y 0).val)
/-- The firing bits of the block over the 256 times from `T`, each as a byte. -/
def spBlk (Ln : Fin 8 → Fin 512 → Lane F) (T : ℕ) : Vec F S256x8x512 .i8 :=
  fun y => BitVec.setWidth 8 ((Ln (y 1) (y 2)).spk (T + (y 0).val))

section
variable {Ln : Fin 8 → Fin 512 → Lane F} {v1 v3 v5 v7 : FVec F S1x512 .f32} {v9 : IVec S1x512 32}
  (h : Fits Ln v1 v3 v5 v7 v9) {t : ℕ} {v : Vec F S1x8x512 .f32} (hv : ∀ b f, v (ix3 0 b f) = (Ln b f).x t)
include h hv

theorem pay46_eq : k0_pay46 v7 (emaAt Ln t) v = emaAt Ln (t + 1) := by
  funext j
  idx_vars j
  pointwise [k0_pay46, k0_pay45]
  rw [hv, h.g j0]
  rfl

theorem pay50_eq : k0_pay50 v1 v3 v5 v7 v9 (emaAt Ln t) (cntAt Ln t) v = cntAt Ln (t + 1) := by
  funext j
  idx_vars j
  pointwise [k0_pay50, k0_pay49, k0_pay48, k0_pay47, k0_pay46, k0_pay45]
  rw [hv, h.g j0, h.vb j0, h.a j0, h.th j0, h.rs j0]
  rfl

theorem pay52_eq (j : S1x8x512.Idx) :
    k0_pay52 v1 v3 v5 v7 (emaAt Ln t) (cntAt Ln t) v j = (Ln (j 1) (j 2)).va (t + 1) := by
  idx_vars j
  pointwise [k0_pay52, k0_pay49, k0_pay48, k0_pay47, k0_pay46, k0_pay45]
  rw [hv, h.g j1, h.vb j1, h.a j1, h.th j1]
  rfl

theorem pay51_eq (j : S1x8x512.Idx) :
    k0_pay51 v1 v3 v5 v7 (emaAt Ln t) (cntAt Ln t) v j = BitVec.setWidth 8 ((Ln (j 1) (j 2)).spk t) := by
  idx_vars j
  pointwise [k0_pay51, k0_pay49, k0_pay48, k0_pay47, k0_pay46, k0_pay45]
  rw [hv, h.g j1, h.vb j1, h.a j1, h.th j1]
  rfl

theorem pay60_eq : k0_pay60 (emaAt Ln t) (k0_pay54 v7 (emaAt Ln t) v) = emaAt Ln (t + 1) := by
  funext j
  idx_vars j
  pointwise [k0_pay60, k0_pay55, k0_pay54, k0_pay53]
  rw [hv, h.g j0]
  rfl

theorem pay61_eq : k0_pay61 v1 v3 v5 v9 (emaAt Ln t) (cntAt Ln t) (k0_pay53 v7 v) (k0_pay54 v7 (emaAt Ln t) v)
    = cntAt Ln (t + 1) := by
  funext j
  idx_vars j
  pointwise [k0_pay61, k0_pay58, k0_pay57, k0_pay56, k0_pay55, k0_pay54, k0_pay53]
  rw [hv, h.g j0, h.vb j0, h.a j0, h.th j0, h.rs j0]
  rfl

theorem pay62_eq : k0_pay62 v1 v3 v5 (emaAt Ln t) (cntAt Ln t) (k0_pay53 v7 v) (k0_pay54 v7 (emaAt Ln t) v)
    = vaAt Ln (t + 1) := by
  funext j
  idx_vars j
  pointwise [k0_pay62, k0_pay58, k0_pay57, k0_pay56, k0_pay55, k0_pay54, k0_pay53]
  rw [hv, h.g j0, h.vb j0, h.a j0, h.th j0]
  rfl

theorem pay58_eq : k0_pay6 (k0_pay58 v1 v3 v5 (emaAt Ln t) (cntAt Ln t) (k0_pay53 v7 v) (k0_pay54 v7 (emaAt Ln t) v))
    = spkAt Ln t := by
  funext j
  idx_vars j
  pointwise [k0_pay6, k0_pay58, k0_pay57, k0_pay56, k0_pay55, k0_pay54, k0_pay53]
  rw [hv, h.g j0, h.vb j0, h.a j0, h.th j0]
  rfl

theorem pay59_eq (j : S1x8x512.Idx) :
    k0_pay59 v1 v3 v5 (emaAt Ln t) (cntAt Ln t) (k0_pay53 v7 v) (k0_pay54 v7 (emaAt Ln t) v) j
      = BitVec.setWidth 8 ((Ln (j 1) (j 2)).spk t) := by
  idx_vars j
  pointwise [k0_pay59, k0_pay58, k0_pay57, k0_pay56, k0_pay55, k0_pay54, k0_pay53]
  rw [hv, h.g j1, h.vb j1, h.a j1, h.th j1]
  rfl

omit hv in
theorem pay41_eq (hv : ∀ b f, v (ix3 0 b f) = (Ln b f).x 0) : k0_pay41 v7 v = emaAt Ln 0 := by
  funext j
  idx_vars j
  pointwise [k0_pay41]
  rw [hv, h.g j0]
  rfl

omit hv in
theorem pay42_eq : (k0_pay42 : IVec S8x512 32) = cntAt Ln 0 := by
  funext j
  idx_vars j
  pointwise [k0_pay42]
  rfl

omit hv in
theorem pay43_eq : k0_pay43 v1 = vaAt Ln 0 := by
  funext j
  idx_vars j
  pointwise [k0_pay43]
  rw [h.vb j0]
  rfl
end

theorem pay44_eq (Ln : Fin 8 → Fin 512 → Lane F) (t : ℕ) (j : S1x8x512.Idx) :
    k0_pay44 (vaAt Ln t) j = (Ln (j 1) (j 2)).va t := by
  idx_vars j
  pointwise [k0_pay44]
  rfl

theorem pay7_eq (Ln : Fin 8 → Fin 512 → Lane F) (t : ℕ) (j : S1x8x512.Idx) :
    k0_pay7 (vaAt Ln t) j = (Ln (j 1) (j 2)).va t := by
  idx_vars j
  pointwise [k0_pay7]
  rfl

theorem extui_ne_zero (b : BitVec 1) : IntOp.cmpi .ne (BitVec.setWidth 32 b) 0#32 = b := by
  revert b; decide

theorem pay8_eq (Ln : Fin 8 → Fin 512 → Lane F) (t : ℕ) (j : S1x8x512.Idx) :
    k0_pay8 (spkAt Ln t) j = BitVec.setWidth 8 ((Ln (j 1) (j 2)).spk t) := by
  idx_vars j
  pointwise [k0_pay8]
  exact congrArg _ (extui_ne_zero _)

end Cert.KernelIdeal.Hand

end
-- ==== Proof.K.Trip.lean ====
module

public import proofs.«01_k».proof.Proof.Gen.KernelIdeal.Loops
public import proofs.«01_k».proof.Proof.K.Pay
public import Idealize.ShloMosaic.Lib.Tactic

@[expose] public section

/-! The loop over the rows of a block: what its trips carry and write, in terms of the recursion of each neuron. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Lane

variable {F : FTy → Type} [FloatOps F]

section
variable (𝒱 : Variants) (c : Dev nD) (bd : Option 𝒱.V) (i : grid0.Coords)
    (arg2 : Memref sig .tc .vmem S8x256x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S1x512 .i32) (harg7 : arg7.IsWhole)
    (arg8 : Memref sig .tc .vmem S256x8x512 .f32) (harg8 : arg8.IsWhole)
    (arg9 : Memref sig .tc .vmem S256x8x512 .i8) (harg9 : arg9.IsWhole)
    (arg10 : Memref sig .tc .vmem S256x8x512 .f32) (harg10 : arg10.IsWhole)
    (arg11 : Memref sig .tc .vmem S8x512 .f32) (harg11 : arg11.IsWhole)
    (arg12 : Memref sig .tc .vmem S8x512 .i32) (harg12 : arg12.IsWhole)
    (arg13 : Memref sig .tc .vmem S8x512 .f32) (harg13 : arg13.IsWhole)
    (arg14 : Memref sig .tc .vmem S8x512 .i32) (harg14 : arg14.IsWhole)
    (arg1 : BitVec 32) (v1 v3 v5 v7 : FVec F S1x512 .f32) (v9 : IVec S1x512 32) (k0_h1 : k0_cond1 i = 1#1)
    (X : BufTy.Contents (Elt F) arg10.view.ty)

/-- The slab of the re-laid input that trip `k` loads. -/
abbrev slab (i : grid0.Coords) (k0_h1 : k0_cond1 i = 1#1) (arg10 : Memref sig .tc .vmem S256x8x512 .f32)
    (X : BufTy.Contents (Elt F) arg10.view.ty) (k : Fin k0_t1_loop.trips) : Vec F S1x8x512 .f32 :=
  arg10.view.readAt (Elt F) (Rect.unit (s := S256x8x512) (k0_off1 k) S1x8x512.size (k0_off1_inb i k k0_h1)).toLoadRect X

theorem trip_yield (k : Fin k0_t1_loop.trips) (acc : Vec F S8x512 .f32 × Vec F S8x512 .i32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v3 v5 v7 v9 k0_h1 X k acc
      = (k0_pay46 v7 acc.1 (slab i k0_h1 arg10 X k), k0_pay50 v1 v3 v5 v7 v9 acc.1 acc.2 (slab i k0_h1 arg10 X k)) := by
  unfold tripR_k0_t1 trip_k0_t1
  rfl

theorem trip_pieces (k : Fin k0_t1_loop.trips) (acc : Vec F S8x512 .f32 × Vec F S8x512 .i32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v3 v5 v7 v9 k0_h1 X k acc
      = ([⟨Rect.unit (s := S256x8x512) (k0_off2 k) S1x8x512.size (k0_off2_inb i k k0_h1),
            k0_pay52 v1 v3 v5 v7 acc.1 acc.2 (slab i k0_h1 arg10 X k)⟩],
         [⟨Rect.unit (s := S256x8x512) (k0_off1 k) S1x8x512.size (k0_off1_inb i k k0_h1),
            k0_pay51 v1 v3 v5 v7 acc.1 acc.2 (slab i k0_h1 arg10 X k)⟩]) := by
  unfold tripL_k0_t1 trip_k0_t1
  rfl

/-- A slab of the re-laid input, read at a neuron. -/
theorem slab_apply (k : Fin k0_t1_loop.trips) (hk : k.val < 256) (b : Fin 8) (f : Fin 512) :
    slab i k0_h1 arg10 X k (ix3 0 b f) = arg10.view.read (Elt F) X (ix3 (⟨k.val, hk⟩ : Fin 256) b f) := by
  show arg10.view.read (Elt F) X ((Rect.unit (s := S256x8x512) (k0_off1 k) S1x8x512.size (k0_off1_inb i k k0_h1)).emb (ix3 0 b f)) = _
  refine congrArg (arg10.view.read (Elt F) X) (Rect.emb_eq_of_coords _ _ _ ?_)
  intro a
  have ho := k0_off1_eq k
  fin_cases a
  all_goals
    simp [Rect.unit, ho, ix3]

variable {Ln : Fin 8 → Fin 512 → Lane F} (T : ℕ)
  (hfit : Fits Ln v1 v3 v5 v7 v9)
  (hX : ∀ (k : Fin 256) (b : Fin 8) (f : Fin 512), arg10.view.read (Elt F) X (ix3 k b f) = (Ln b f).x (T + k.val))

/-- What the loop has done before trip `k`, started from the state at time `T`: it carries the state at time `T + k`, and
    has written the voltages of rows 1 to `k` and the firing bits of rows 0 to `k - 1`. -/
structure LoopAt (Ln : Fin 8 → Fin 512 → Lane F) (T k : ℕ)
    (s : (Vec F S8x512 .f32 × Vec F S8x512 .i32) × List (View.Piece (Elt F) S256x8x512 .f32) × List (View.Piece (Elt F) S256x8x512 .i8)) : Prop where
  ema : s.1.1 = emaAt Ln (T + k)
  cnt : s.1.2 = cntAt Ln (T + k)
  va : ∀ p ∈ s.2.1, ∀ x : p.1.shape.Idx, p.2 x = vaBlk Ln T (p.1.emb x)
  vaCov : ∀ y : S256x8x512.Idx, 1 ≤ (y 0).val → (y 0).val ≤ k → ∃ p ∈ s.2.1, y ∈ p.1.set
  sp : ∀ p ∈ s.2.2, ∀ x : p.1.shape.Idx, p.2 x = spBlk Ln T (p.1.emb x)
  spCov : ∀ y : S256x8x512.Idx, (y 0).val < k → ∃ p ∈ s.2.2, y ∈ p.1.set

/-- A place of the block is in the one-row rectangle at row `o` when that is its row. -/
theorem mem_row {off : Fin 3 → ℕ} (o : ℕ) (ho : off = ![o, 0, 0]) (inb : ∀ a, off a + S1x8x512.size a ≤ S256x8x512.size a)
    (y : S256x8x512.Idx) (hy : (y 0).val = o) : y ∈ (Rect.unit (s := S256x8x512) off S1x8x512.size inb).set := by
  subst ho
  rw [Rect.mem_set_unit]
  intro a
  have h1 : (y 1).val < 8 := (y 1).isLt
  have h2 : (y 2).val < 512 := (y 2).isLt
  fin_cases a
  · simp; omega
  · simpa using h1
  · simpa using h2

/-- Where the one-row rectangle at row `o` places its own index. -/
theorem emb_row {off : Fin 3 → ℕ} (o : ℕ) (ho : off = ![o, 0, 0]) (inb : ∀ a, off a + S1x8x512.size a ≤ S256x8x512.size a)
    (x : S1x8x512.Idx) (h : o < 256) :
    (Rect.unit (s := S256x8x512) off S1x8x512.size inb).emb x = ix3 (⟨o, h⟩ : Fin 256) (x 1) (x 2) := by
  subst ho
  refine Rect.emb_eq_of_coords _ _ _ ?_
  intro a
  have h0 : (x 0).val < 1 := (x 0).isLt
  have h0' : (x 0).val = 0 := by omega
  fin_cases a
  all_goals simp [Rect.unit, ix3, h0']

include hfit hX in
/-- The loop, trip by trip. -/
theorem loop_at (k : ℕ) (hk : k ≤ k0_t1_loop.trips) :
    LoopAt Ln T k (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v3 v5 v7 v9 k0_h1 X (emaAt Ln T, cntAt Ln T) k) := by
  induction k with
  | zero =>
    exact ⟨rfl, rfl, fun p hp => absurd hp List.not_mem_nil, fun y h1 h2 => by omega,
      fun p hp => absurd hp List.not_mem_nil, fun y h => by omega⟩
  | succ k ih =>
    have hlt : k < k0_t1_loop.trips := hk
    have h255 : k < 255 := Nat.lt_of_lt_of_le hlt k0_t1_abs.2.1
    have ih := ih hlt.le
    rw [show k + 1 = (⟨k, hlt⟩ : Fin k0_t1_loop.trips).val + 1 from rfl, st_k0_t1_succ]
    generalize st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v3 v5 v7 v9 k0_h1 X (emaAt Ln T, cntAt Ln T) (⟨k, hlt⟩ : Fin k0_t1_loop.trips).val = s at ih ⊢
    obtain ⟨⟨e, r⟩, L8, L9⟩ := s
    obtain ⟨he, hr, hva, hvac, hsp, hspc⟩ := ih
    dsimp only at he hr hva hvac hsp hspc
    subst he hr
    have hv : ∀ (b : Fin 8) (f : Fin 512), slab i k0_h1 arg10 X ⟨k, hlt⟩ (ix3 0 b f) = (Ln b f).x (T + k) := fun b f => by
      rw [slab_apply i arg10 k0_h1 X ⟨k, hlt⟩ (show k < 256 by omega)]; exact hX _ _ _
    rw [trip_yield, trip_pieces]
    refine ⟨pay46_eq hfit hv, pay50_eq hfit hv, ?_, ?_, ?_, ?_⟩
    · intro p hp x
      rcases List.mem_cons.mp hp with rfl | hp
      · rw [emb_row (k + 1) (k0_off2_eq ⟨k, hlt⟩) _ x (by omega)]
        exact pay52_eq hfit hv x
      · exact hva p hp x
    · intro y h1 h2
      by_cases hy : (y 0).val = k + 1
      · exact ⟨_, List.mem_cons_self, mem_row (k + 1) (k0_off2_eq ⟨k, hlt⟩) (k0_off2_inb i ⟨k, hlt⟩ k0_h1) y hy⟩
      · obtain ⟨p, hp, hm⟩ := hvac y h1 (by have : (y 0).val ≤ k + 1 := h2; omega)
        exact ⟨p, List.mem_cons_of_mem _ hp, hm⟩
    · intro p hp x
      rcases List.mem_cons.mp hp with rfl | hp
      · rw [emb_row k (k0_off1_eq ⟨k, hlt⟩) _ x (by omega)]
        exact pay51_eq hfit hv x
      · exact hsp p hp x
    · intro y h1
      by_cases hy : (y 0).val = k
      · exact ⟨_, List.mem_cons_self, mem_row k (k0_off1_eq ⟨k, hlt⟩) (k0_off1_inb i ⟨k, hlt⟩ k0_h1) y hy⟩
      · obtain ⟨p, hp, hm⟩ := hspc y (by have : (y 0).val < k + 1 := h1; omega)
        exact ⟨p, List.mem_cons_of_mem _ hp, hm⟩

theorem trips_eq : k0_t1_loop.trips = 255 := by decide +kernel

include hfit hX in
/-- The whole loop. -/
theorem loop_done {e : Vec F S8x512 .f32} {r : Vec F S8x512 .i32} (he : e = emaAt Ln T) (hr : r = cntAt Ln T) :
    LoopAt Ln T 255 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v3 v5 v7 v9 k0_h1 X (e, r)
      (Scf.trips k0_t1_loop.lb k0_t1_loop.ub k0_t1_loop.st)) := by
  have key : ∀ n, n = 255 → n ≤ k0_t1_loop.trips → LoopAt Ln T 255 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v1 v3 v5 v7 v9 k0_h1 X (e, r) n) := by
    rintro n rfl h
    subst he hr
    exact loop_at 𝒱 c bd i arg2 harg2 arg3 harg3 arg4 harg4 arg5 harg5 arg6 harg6 arg7 harg7 arg8 harg8 arg9 harg9 arg10 harg10 arg11 harg11 arg12 harg12 arg13 harg13 arg14 harg14 arg1 v1 v3 v5 v7 v9 k0_h1 X T hfit hX 255 h
  exact key _ trips_eq le_rfl
end

end Cert.KernelIdeal.Hand

end
-- ==== Proof.K.Relay.lean ====
module

public import proofs.«01_k».proof.Proof.K.Trip
public import Idealize.ShloMosaic.Lib.VecWindow

@[expose] public section

/-! The input block re-laid with time leading, and what a block's two outputs read once the loop and the two stores around it
are done. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Lane

variable {F : FTy → Type} [FloatOps F]

/-- A whole block read through its own rectangle is itself: each of the constants' rows. -/
theorem pay1_eq {arg : Memref sig .tc .vmem S1x512 .f32} (h : arg.IsWhole) (x : Vec F S1x512 .f32)
    (inb : ∀ a, (![0, 0] : Fin 2 → ℕ) a + S1x512.size a ≤ S1x512.size a) :
    k0_pay1 (arg.view.readAt (Elt F) (Rect.unit (s := S1x512) ![0, 0] S1x512.size inb).toLoadRect (h.unread x)) = x := by
  rw [View.readAt_full, h.read_unread]
  funext j
  idx_vars j
  pointwise [k0_pay1]

theorem pay2_eq {arg : Memref sig .tc .vmem S1x512 .f32} (h : arg.IsWhole) (x : Vec F S1x512 .f32)
    (inb : ∀ a, (![0, 0] : Fin 2 → ℕ) a + S1x512.size a ≤ S1x512.size a) :
    k0_pay2 (arg.view.readAt (Elt F) (Rect.unit (s := S1x512) ![0, 0] S1x512.size inb).toLoadRect (h.unread x)) = x :=
  pay1_eq h x inb

theorem pay3_eq {arg : Memref sig .tc .vmem S1x512 .f32} (h : arg.IsWhole) (x : Vec F S1x512 .f32)
    (inb : ∀ a, (![0, 0] : Fin 2 → ℕ) a + S1x512.size a ≤ S1x512.size a) :
    k0_pay3 (arg.view.readAt (Elt F) (Rect.unit (s := S1x512) ![0, 0] S1x512.size inb).toLoadRect (h.unread x)) = x :=
  pay1_eq h x inb

theorem pay4_eq {arg : Memref sig .tc .vmem S1x512 .f32} (h : arg.IsWhole) (x : Vec F S1x512 .f32)
    (inb : ∀ a, (![0, 0] : Fin 2 → ℕ) a + S1x512.size a ≤ S1x512.size a) :
    k0_pay4 (arg.view.readAt (Elt F) (Rect.unit (s := S1x512) ![0, 0] S1x512.size inb).toLoadRect (h.unread x)) = x :=
  pay1_eq h x inb

theorem pay5_eq {arg : Memref sig .tc .vmem S1x512 .i32} (h : arg.IsWhole) (x : Vec F S1x512 .i32)
    (inb : ∀ a, (![0, 0] : Fin 2 → ℕ) a + S1x512.size a ≤ S1x512.size a) :
    k0_pay5 (arg.view.readAt (Elt F) (Rect.unit (s := S1x512) ![0, 0] S1x512.size inb).toLoadRect (h.unread x)) = x := by
  rw [View.readAt_full, h.read_unread]
  funext j
  idx_vars j
  pointwise [k0_pay5]

/-- One of the thirty-two tiles re-laid: eight times of the input block, its two leading axes swapped, stored at its rows. -/
abbrev swap (arg2 : Memref sig .tc .vmem S8x256x512 .f32) (X2 : BufTy.Contents (Elt F) arg2.view.ty) (n : Fin 32) :
    View.Piece (Elt F) S256x8x512 .f32 :=
  ⟨Rect.unit (s := S256x8x512) ![8 * n.val, 0, 0] S8x8x512.size (by
      have := n.isLt
      intro a; fin_cases a
      · simp; omega
      · simp
      · simp),
    k0_pay9 (arg2.view.readAt (Elt F) (Rect.unit (s := S8x256x512) ![0, 8 * n.val, 0] S8x8x512.size (by
      have := n.isLt
      intro a; fin_cases a
      · simp
      · simp; omega
      · simp)).toLoadRect X2)⟩

/-- The thirty-two stores that re-lay an input block, last first. -/
abbrev relaid (arg2 : Memref sig .tc .vmem S8x256x512 .f32) (X2 : BufTy.Contents (Elt F) arg2.view.ty) :
    List (View.Piece (Elt F) S256x8x512 .f32) :=
  (List.finRange 32).reverse.map (swap arg2 X2)

/-- A tile holds the input block with its two leading axes swapped. -/
theorem swap_agrees (arg2 : Memref sig .tc .vmem S8x256x512 .f32) (X2 : BufTy.Contents (Elt F) arg2.view.ty) (n : Fin 32)
    (x : S8x8x512.Idx) :
    (swap arg2 X2 n).2 x = (fun y : S256x8x512.Idx => arg2.view.read (Elt F) X2 (ix3 (y 1) (y 0) (y 2) : S8x256x512.Idx)) ((swap arg2 X2 n).1.emb x) := by
  have hn := n.isLt
  idx_vars x
  pointwise [k0_pay9]
  show arg2.view.read (Elt F) X2 ((Rect.unit (s := S8x256x512) ![0, 8 * n.val, 0] S8x8x512.size _).emb (ix3 x1 x0 x2)) = _
  refine congrArg (arg2.view.read (Elt F) X2) (Rect.emb_eq_of_coords _ _ _ ?_)
  intro a
  fin_cases a <;> rfl

/-- The re-laid block, read at a place, is the input block with the batch row and the time swapped. -/
theorem relaid_read (arg2 : Memref sig .tc .vmem S8x256x512 .f32) (X2 : BufTy.Contents (Elt F) arg2.view.ty)
    (arg10 : Memref sig .tc .vmem S256x8x512 .f32) (f10 : BufTy.Contents (Elt F) arg10.view.ty) (k : Fin 256) (b : Fin 8) (f : Fin 512) :
    arg10.view.read (Elt F) (arg10.view.writes (Elt F) f10 (relaid arg2 X2)) (ix3 k b f)
      = arg2.view.read (Elt F) X2 (ix3 b k f) := by
  refine View.read_writes_apply_of_pieces arg10.view f10
    (fun y : S256x8x512.Idx => arg2.view.read (Elt F) X2 (ix3 (y 1) (y 0) (y 2) : S8x256x512.Idx)) _ ?_ (ix3 k b f) ?_
  · intro p hp x
    obtain ⟨n, -, rfl⟩ := List.mem_map.mp hp
    exact swap_agrees arg2 X2 n x
  · refine ⟨swap arg2 X2 ⟨k.val / 8, by omega⟩, List.mem_map.mpr ⟨_, by simp, rfl⟩, ?_⟩
    rw [Rect.mem_set_unit]
    intro a
    have h1 := b.isLt
    have h2 := f.isLt
    fin_cases a
    · simp [ix3]; omega
    · simp [ix3]
    · simp [ix3]

/-- A one-row load of the re-laid block. -/
theorem row_read {arg10 : Memref sig .tc .vmem S256x8x512 .f32} (X : BufTy.Contents (Elt F) arg10.view.ty) (o : ℕ) (ho : o < 256)
    (inb : ∀ a, (![o, 0, 0] : Fin 3 → ℕ) a + S1x8x512.size a ≤ S256x8x512.size a) (b : Fin 8) (f : Fin 512) :
    arg10.view.readAt (Elt F) (Rect.unit (s := S256x8x512) ![o, 0, 0] S1x8x512.size inb).toLoadRect X (ix3 0 b f)
      = arg10.view.read (Elt F) X (ix3 (⟨o, ho⟩ : Fin 256) b f) := by
  show arg10.view.read (Elt F) X ((Rect.unit (s := S256x8x512) ![o, 0, 0] S1x8x512.size inb).emb (ix3 0 b f)) = _
  rw [emb_row o rfl inb (ix3 0 b f) ho]
  rfl

/-- The voltages' block after the loop and the store of its first row. -/
theorem va_read {Ln : Fin 8 → Fin 512 → Lane F} {T : ℕ} {s} (h : LoopAt Ln T 255 s)
    (arg8 : Memref sig .tc .vmem S256x8x512 .f32) (f8 : BufTy.Contents (Elt F) arg8.view.ty)
    (inb : ∀ a, (![0, 0, 0] : Fin 3 → ℕ) a + S1x8x512.size a ≤ S256x8x512.size a) (w : Vec F S1x8x512 .f32)
    (hw : ∀ j, w j = (Ln (j 1) (j 2)).va T) :
    arg8.view.read (Elt F) (arg8.view.writes (Elt F) f8
      (s.2.1 ++ [⟨Rect.unit (s := S256x8x512) ![0, 0, 0] S1x8x512.size inb, w⟩])) = vaBlk Ln T := by
  funext y
  have hy : (y 0).val < 256 := (y 0).isLt
  refine View.read_writes_apply_of_pieces arg8.view f8 (vaBlk Ln T) _ ?_ y ?_
  · intro p hp x
    rcases List.mem_append.mp hp with hp | hp
    · exact h.va p hp x
    · obtain rfl := List.mem_singleton.mp hp
      rw [emb_row 0 rfl inb x (by omega)]
      exact hw x
  · by_cases h0 : (y 0).val = 0
    · exact ⟨_, List.mem_append_right _ (List.mem_singleton.mpr rfl), mem_row 0 rfl inb y h0⟩
    · obtain ⟨p, hp, hm⟩ := h.vaCov y (by omega) (by omega)
      exact ⟨p, List.mem_append_left _ hp, hm⟩

/-- The firing bits' block after the loop and the store of its last row. -/
theorem sp_read {Ln : Fin 8 → Fin 512 → Lane F} {T : ℕ} {s} (h : LoopAt Ln T 255 s)
    (arg9 : Memref sig .tc .vmem S256x8x512 .i8) (f9 : BufTy.Contents (Elt F) arg9.view.ty)
    (inb : ∀ a, (![255, 0, 0] : Fin 3 → ℕ) a + S1x8x512.size a ≤ S256x8x512.size a) (w : Vec F S1x8x512 .i8)
    (hw : ∀ j, w j = BitVec.setWidth 8 ((Ln (j 1) (j 2)).spk (T + 255))) :
    arg9.view.read (Elt F) (arg9.view.writes (Elt F) f9
      (⟨Rect.unit (s := S256x8x512) ![255, 0, 0] S1x8x512.size inb, w⟩ :: s.2.2)) = spBlk Ln T := by
  funext y
  have hy : (y 0).val < 256 := (y 0).isLt
  refine View.read_writes_apply_of_pieces arg9.view f9 (spBlk Ln T) _ ?_ y ?_
  · intro p hp x
    rcases List.mem_cons.mp hp with rfl | hp
    · rw [emb_row 255 rfl inb x (by omega)]
      exact hw x
    · exact h.sp p hp x
  · by_cases h0 : (y 0).val = 255
    · exact ⟨_, List.mem_cons_self, mem_row 255 rfl inb y h0⟩
    · obtain ⟨p, hp, hm⟩ := h.spCov y (by omega)
      exact ⟨p, List.mem_cons_of_mem _ hp, hm⟩

end Cert.KernelIdeal.Hand

end
-- ==== Proof.K.RunA.lean ====
module

public import proofs.«01_k».proof.Proof.K.Relay
public import proofs.«01_k».proof.Proof.Gen.KernelIdeal.Frame

@[expose] public section

/-! The body at the first point along time: it starts the recursion, and leaves the state 256 steps on. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Lane

variable {F : FTy → Type} [FloatOps F]

local notation "𝕄" => MT nD τ sig Unit (Elt F) ℕ (UR sig nD τ) ℕ

/-- Branch conditions of the body at a point: there are rows to compute, it is the first point along time, it is the last. -/
abbrev rows (i : grid0.Coords) : Prop := k0_cond1 i = 1#1
abbrev first (i : grid0.Coords) : Prop :=
  (Scalar.cmpi .ne (Scalar.extui (Scalar.cmpi .eq (BitVec.ofNat 32 (i 1).val) 0#32)) 0#32) = 1#1
abbrev last (i : grid0.Coords) : Prop := k0_cond3 i = 1#1

set_option maxHeartbeats 1000000 in
/-- The body at the first point along time, on any buffers. -/
theorem run_first (c : Dev nD) (i : grid0.Coords)
    (arg2 : Memref sig .tc .vmem S8x256x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S1x512 .i32) (harg7 : arg7.IsWhole)
    (arg8 : Memref sig .tc .vmem S256x8x512 .f32) (harg8 : arg8.IsWhole)
    (arg9 : Memref sig .tc .vmem S256x8x512 .i8) (harg9 : arg9.IsWhole)
    (arg10 : Memref sig .tc .vmem S256x8x512 .f32) (harg10 : arg10.IsWhole)
    (arg11 : Memref sig .tc .vmem S8x512 .f32) (harg11 : arg11.IsWhole)
    (arg12 : Memref sig .tc .vmem S8x512 .i32) (harg12 : arg12.IsWhole)
    (arg13 : Memref sig .tc .vmem S8x512 .f32) (harg13 : arg13.IsWhole)
    (arg14 : Memref sig .tc .vmem S8x512 .i32) (harg14 : arg14.IsWhole)
    (hc0 : rows i) (hc1 : first i) (hc2 : ¬last i)
    (x0 : Vec F S8x256x512 .f32) (x1 x2 x3 x4 : Vec F S1x512 .f32) (x5 : Vec F S1x512 .i32)
    {Ln : Fin 8 → Fin 512 → Lane F}(hfit : Fits Ln x1 x2 x3 x4 x5)
    (hx : ∀ b k f, x0 (ix3 b k f) = (Ln b f).x k.val)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (vaBlk Ln 0) ∗ owns (c : Thread nD τ) arg9 fullShare (spBlk Ln 0) ∗ (∃ d, owns (c : Thread nD τ) arg10 fullShare d) ∗ owns (c : Thread nD τ) arg11 fullShare (emaAt Ln 256) ∗ owns (c : Thread nD τ) arg12 fullShare (cntAt Ln 256) ∗ owns (c : Thread nD τ) arg13 fullShare (vaAt Ln 256) ∗ owns (c : Thread nD τ) arg14 fullShare (spkAt Ln 255)) -∗ K ⟨⟩))
      ⊢ wp frame (wpE (defs₀ (F := F)) Variants.none c none) E
          (cc0_faneuron_scan i arg2 harg2 arg3 harg3 arg4 harg4 arg5 harg5 arg6 harg6 arg7 harg7 arg8 harg8 arg9 harg9 arg10 harg10 arg11 harg11 arg12 harg12 arg13 harg13 arg14 harg14) K := by
  simp only [cc0_faneuron_scan_eq_skeleton]; unfold cc0_faneuron_scan_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%ds0, %fs0, -, HS0⟩, ⟨%ds1, %fs1, -, HS1⟩, ⟨%ds2, %fs2, -, HS2⟩,
    ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  have e32 : run_first.sl.HS0_32 c arg2 harg2 x0 = relaid arg2 (harg2.unread x0) := rfl
  have hX : ∀ (k : Fin 256) (b : Fin 8) (f : Fin 512),
      arg10.view.read (Elt F) (arg10.view.writes (Elt F) arg10.view.junk (run_first.sl.HS0_32 c arg2 harg2 x0)) (ix3 k b f)
        = (Ln b f).x (0 + k.val) := fun k b f => by
    rw [e32, relaid_read, hf0]; rw [hx, Nat.zero_add]
  have h187 : ∀ (b : Fin 8) (f : Fin 512), run_first.sl.v187 c arg2 harg2 arg10 x0 (ix3 0 b f) = (Ln b f).x (0 + 255) :=
    fun b f => (row_read _ 255 (by omega) _ b f).trans (hX _ b f)
  have e1 := pay1_eq harg3 x1 inb_S1x512_S1x512_0_0
  have e2 := pay2_eq harg4 x2 inb_S1x512_S1x512_0_0
  have e3 := pay3_eq harg5 x3 inb_S1x512_S1x512_0_0
  have e4 := pay4_eq harg6 x4 inb_S1x512_S1x512_0_0
  have e5 := pay5_eq harg7 x5 inb_S1x512_S1x512_0_0
  have hfit' : Fits Ln (k0_pay1 _) (k0_pay2 _) (k0_pay3 _) (k0_pay4 _) (k0_pay5 _) :=
    e1.symm ▸ e2.symm ▸ e3.symm ▸ e4.symm ▸ e5.symm ▸ hfit
  have h237 : ∀ (b : Fin 8) (f : Fin 512), run_first.sl.v237 c arg2 harg2 arg10 x0 (ix3 0 b f) = (Ln b f).x 0 :=
    fun b f => (row_read _ 0 (by omega) _ b f).trans (hX _ b f)
  have e183 : run_first.sl.v183 c arg2 harg2 arg6 harg6 arg10 arg11 x0 x4 = emaAt Ln 0 :=
    (View.readCov_full _ _ _ _ _).trans ((congrArg (fun v => k0_pay41 v _) e4).trans (pay41_eq hfit h237))
  have e184 : run_first.sl.v184 c arg12 = cntAt Ln 0 := (View.readCov_full _ _ _ _ _).trans (pay42_eq hfit)
  have e179 : run_first.sl.v179 c arg3 harg3 arg13 x1 = vaAt Ln 0 :=
    (View.readCov_full _ _ _ _ _).trans ((congrArg k0_pay43 e1).trans (pay43_eq hfit))
  have hloop := loop_done Variants.none c none i arg2 harg2 arg3 harg3 arg4 harg4 arg5 harg5 arg6 harg6 arg7 harg7 arg8 harg8 arg9 harg9 arg10 harg10 arg11 harg11 arg12 harg12 arg13 harg13 arg14 harg14
    (BitVec.ofNat 32 (i 1).val) _ _ _ _ _ hc0 _ 0 hfit' hX e183 e184
  have er : run_first.sl.r c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = emaAt Ln (0 + 255) := hloop.ema
  have er1 : run_first.sl.r_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = cntAt Ln (0 + 255) := hloop.cnt
  have er2 : run_first.sl.r_2 c arg2 harg2 arg6 harg6 arg10 x0 x4 = k0_pay53 x4 (run_first.sl.v187 c arg2 harg2 arg10 x0) :=
    congrArg (fun v => k0_pay53 v _) e4
  have er3 : run_first.sl.r_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay54 x4 (emaAt Ln (0 + 255)) (run_first.sl.v187 c arg2 harg2 arg10 x0) :=
    congrArg₂ (fun v e => k0_pay54 v e _) e4 er
  have er4 : k0_pay6 (run_first.sl.r_4 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5) = spkAt Ln (0 + 255) := by
    unfold run_first.sl.r_4
    rw [er, er1, er2, er3, e1, e2, e3]
    exact pay58_eq hfit h187
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr; swap; · iexact H6
    ipureintro
    exact va_read hloop arg8 _ _ _ fun j => by rw [e179]; exact pay44_eq Ln 0 j
  isplitl [H7]
  · iexists _; isplitr; swap; · iexact H7
    ipureintro
    refine sp_read hloop arg9 _ _ _ fun j => ?_
    rw [er, er1, er2, er3, e1, e2, e3]
    exact pay59_eq hfit h187 j
  isplitl [HS0]
  · iexists _, _; isplitr; swap; · iexact HS0
    ipureintro; rfl
  isplitl [HS1]
  · iexists _; isplitr; swap; · iexact HS1
    ipureintro
    refine (View.read_writes_full _ _ _ _ _).trans ?_
    rw [er, er3]
    exact pay60_eq hfit h187
  isplitl [HS2]
  · iexists _; isplitr; swap; · iexact HS2
    ipureintro
    refine (View.read_writes_full _ _ _ _ _).trans ?_
    rw [er, er1, er2, er3, e1, e2, e3, e5]
    exact pay61_eq hfit h187
  isplitl [HS3]
  · iexists _; isplitr; swap; · iexact HS3
    ipureintro
    refine (View.read_writes_full _ _ _ _ _).trans ?_
    rw [er, er1, er2, er3, e1, e2, e3]
    exact pay62_eq hfit h187
  iexists _; isplitr; swap; · iexact HS4
  ipureintro
  refine (View.read_writes_full _ _ _ _ _).trans ?_
  exact er4

end Cert.KernelIdeal.Hand

end
-- ==== Proof.K.Data.lean ====
module

public import proofs.«01_k».proof.Proof.K.RunA
public import proofs.«01_k».proof.Proof.Gen.KernelIdeal.Frame
public import Idealize.ShloMosaic.Lib.Pipeline.ValueKit

@[expose] public section

/-! What the region finds in its arrays, read as lanes: each batch entry and feature is one recursion over time; and the
blocks the pipeline stages at a point, read at coordinates. -/

set_option maxRecDepth 16384

noncomputable section

namespace Cert.KernelIdeal.Hand

open Idealize.ShloMosaic Idealize.ShloMosaic.TcCoe Idealize.ShloMosaic.Tactic
open Cert.KernelIdeal.Gen Cert.Lane

variable {F : FTy → Type} [FloatOps F]
variable (m : (ℓ : Loc nD τ sig) → Buf (Elt F) ℓ)

/-- The arrays the region is entered with, at their vector types. -/
def arrX (c : Dev nD) : Vec F S16x4096x512 .f32 := V m c main_arg0
def arrVb (c : Dev nD) : Vec F S1x512 .f32 := V m c main_v6
def arrA (c : Dev nD) : Vec F S1x512 .f32 := V m c main_v7
def arrTh (c : Dev nD) : Vec F S1x512 .f32 := V m c main_v8
def arrG (c : Dev nD) : Vec F S1x512 .f32 := V m c main_v9
def arrRs (c : Dev nD) : Vec F S1x512 .i32 := V m c main_v10

/-- The recursion of batch entry `b` and feature `f`, its input at any step past the last read at the last. -/
def lane (c : Dev nD) (b : Fin 16) (f : Fin 512) : Lane F where
  vb := arrVb m c (ix2 0 f)
  a := arrA m c (ix2 0 f)
  th := arrTh m c (ix2 0 f)
  g := arrG m c (ix2 0 f)
  rs := arrRs m c (ix2 0 f)
  x t := arrX m c (ix3 b ⟨min t 4095, by omega⟩ f)

/-- The eight lanes of features a point `n` of the grid works on. -/
def grp (c : Dev nD) (n : ℕ) (b : Fin 8) (f : Fin 512) : Lane F := lane m c ⟨(8 * (n / 17) + b.val) % 16, by omega⟩ f

/-- Where the blocks lie, point by point. -/
theorem idx_0 : ∀ t : Fin cfg0.N, win0_0.index t = ![t.val / 17, min (t.val % 17) 15, 0] :=
  (by decide +kernel : ∀ t : Fin grid0.N, win0_0.index t = ![t.val / 17, min (t.val % 17) 15, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])
theorem idx_6 : ∀ t : Fin cfg0.N, win0_6.index t = ![t.val % 17, t.val / 17, 0] :=
  (by decide +kernel : ∀ t : Fin grid0.N, win0_6.index t = ![t.val % 17, t.val / 17, 0])
theorem idx_7 : ∀ t : Fin cfg0.N, win0_7.index t = ![t.val % 17, t.val / 17, 0] :=
  (by decide +kernel : ∀ t : Fin grid0.N, win0_7.index t = ![t.val % 17, t.val / 17, 0])

theorem point_lt (t : Fin cfg0.N) : t.val < 34 := Nat.lt_of_lt_of_eq t.isLt N_0

/-- The parameter blocks hold the lanes' parameters. -/
theorem fits (c : Dev nD) (t : Fin cfg0.N) :
    Fits (grp m c t.val) (iblk m c 1 t) (iblk m c 2 t) (iblk m c 3 t) (iblk m c 4 t) (iblk m c 5 t) where
  vb b f := by
    show iblk m c 1 t (ix2 0 f) = V m c main_v6 (ix2 0 f)
    blk_simp [iblk]
    congr 1
    blk_ext [idx_1 t]
  a b f := by
    show iblk m c 2 t (ix2 0 f) = V m c main_v7 (ix2 0 f)
    blk_simp [iblk]
    congr 1
    blk_ext [idx_2 t]
  th b f := by
    show iblk m c 3 t (ix2 0 f) = V m c main_v8 (ix2 0 f)
    blk_simp [iblk]
    congr 1
    blk_ext [idx_3 t]
  g b f := by
    show iblk m c 4 t (ix2 0 f) = V m c main_v9 (ix2 0 f)
    blk_simp [iblk]
    congr 1
    blk_ext [idx_4 t]
  rs b f := by
    show iblk m c 5 t (ix2 0 f) = V m c main_v10 (ix2 0 f)
    blk_simp [iblk]
    congr 1
    blk_ext [idx_5 t]

/-- The input block at a point with rows holds the lanes' inputs from the point's first step on. -/
theorem rows_read (c : Dev nD) (t : Fin cfg0.N) (h : t.val % 17 ≤ 15) (b : Fin 8) (k : Fin 256) (f : Fin 512) :
    iblk m c 0 t (ix3 b k f) = (grp m c t.val b f).x (256 * (t.val % 17) + k.val) := by
  have ht := point_lt t
  show iblk m c 0 t (ix3 b k f)
    = V m c main_arg0 (ix3 (⟨(8 * (t.val / 17) + b.val) % 16, by omega⟩ : Fin 16) (⟨min (256 * (t.val % 17) + k.val) 4095, by omega⟩ : Fin 4096) f)
  blk_simp [iblk]
  congr 1
  blk_ext [idx_0 t]

end Cert.KernelIdeal.Hand

end
-- ==== Proof.K.RunB.lean ====
module

public import proofs.«01_k».proof.Proof.K.RunA

@[expose] public section

/-! The body at a later point along time: from the state before its rows to the state 256 steps on. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Lane

variable {F : FTy → Type} [FloatOps F]

local notation "𝕄" => MT nD τ sig Unit (Elt F) ℕ (UR sig nD τ) ℕ

set_option maxHeartbeats 1000000 in
/-- The body at a later point with rows to compute, on any buffers. -/
theorem run_mid (c : Dev nD) (i : grid0.Coords)
    (arg2 : Memref sig .tc .vmem S8x256x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S1x512 .i32) (harg7 : arg7.IsWhole)
    (arg8 : Memref sig .tc .vmem S256x8x512 .f32) (harg8 : arg8.IsWhole)
    (arg9 : Memref sig .tc .vmem S256x8x512 .i8) (harg9 : arg9.IsWhole)
    (arg10 : Memref sig .tc .vmem S256x8x512 .f32) (harg10 : arg10.IsWhole)
    (arg11 : Memref sig .tc .vmem S8x512 .f32) (harg11 : arg11.IsWhole)
    (arg12 : Memref sig .tc .vmem S8x512 .i32) (harg12 : arg12.IsWhole)
    (arg13 : Memref sig .tc .vmem S8x512 .f32) (harg13 : arg13.IsWhole)
    (arg14 : Memref sig .tc .vmem S8x512 .i32) (harg14 : arg14.IsWhole)
    (hc0 : rows i) (hc1 : ¬first i) (hc2 : ¬last i)
    (x0 : Vec F S8x256x512 .f32) (x1 x2 x3 x4 : Vec F S1x512 .f32) (x5 : Vec F S1x512 .i32)
    (xs1 : Vec F S8x512 .f32) (xs2 : Vec F S8x512 .i32) (xs3 : Vec F S8x512 .f32)
    {Ln : Fin 8 → Fin 512 → Lane F} (T : ℕ) (hfit : Fits Ln x1 x2 x3 x4 x5)
    (hx : ∀ b k f, x0 (ix3 b k f) = (Ln b f).x (T + k.val))
    (hs1 : xs1 = emaAt Ln T) (hs2 : xs2 = cntAt Ln T) (hs3 : xs3 = vaAt Ln T)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ owns (c : Thread nD τ) arg12 fullShare xs2 ∗ owns (c : Thread nD τ) arg13 fullShare xs3 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (vaBlk Ln T) ∗ owns (c : Thread nD τ) arg9 fullShare (spBlk Ln T) ∗ (∃ d, owns (c : Thread nD τ) arg10 fullShare d) ∗ owns (c : Thread nD τ) arg11 fullShare (emaAt Ln (T + 256)) ∗ owns (c : Thread nD τ) arg12 fullShare (cntAt Ln (T + 256)) ∗ owns (c : Thread nD τ) arg13 fullShare (vaAt Ln (T + 256)) ∗ owns (c : Thread nD τ) arg14 fullShare (spkAt Ln (T + 255))) -∗ K ⟨⟩))
      ⊢ wp frame (wpE (defs₀ (F := F)) Variants.none c none) E
          (cc0_faneuron_scan i arg2 harg2 arg3 harg3 arg4 harg4 arg5 harg5 arg6 harg6 arg7 harg7 arg8 harg8 arg9 harg9 arg10 harg10 arg11 harg11 arg12 harg12 arg13 harg13 arg14 harg14) K := by
  simp only [cc0_faneuron_scan_eq_skeleton]; unfold cc0_faneuron_scan_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%ds0, %fs0, -, HS0⟩, ⟨%fs1, %hg1, HS1⟩, ⟨%fs2, %hg2, HS2⟩,
    ⟨%fs3, %hg3, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg11.eq_unread hg1; obtain rfl := harg12.eq_unread hg2; obtain rfl := harg13.eq_unread hg3
  sl_exec (disch := first | sl_exact hc0 | sl_exact hc1 | sl_exact hc2)
  sl_step
  have e32 : run_mid.sl.HS0_32 c arg2 harg2 x0 = relaid arg2 (harg2.unread x0) := rfl
  have hX : ∀ (k : Fin 256) (b : Fin 8) (f : Fin 512),
      arg10.view.read (Elt F) (arg10.view.writes (Elt F) arg10.view.junk (run_mid.sl.HS0_32 c arg2 harg2 x0)) (ix3 k b f)
        = (Ln b f).x (T + k.val) := fun k b f => by
    rw [e32, relaid_read, hf0]; rw [hx]
  have h187 : ∀ (b : Fin 8) (f : Fin 512), run_mid.sl.v187 c arg2 harg2 arg10 x0 (ix3 0 b f) = (Ln b f).x (T + 255) :=
    fun b f => (row_read _ 255 (by omega) _ b f).trans (hX _ b f)
  have e1 := pay1_eq harg3 x1 inb_S1x512_S1x512_0_0
  have e2 := pay2_eq harg4 x2 inb_S1x512_S1x512_0_0
  have e3 := pay3_eq harg5 x3 inb_S1x512_S1x512_0_0
  have e4 := pay4_eq harg6 x4 inb_S1x512_S1x512_0_0
  have e5 := pay5_eq harg7 x5 inb_S1x512_S1x512_0_0
  have hfit' : Fits Ln (k0_pay1 _) (k0_pay2 _) (k0_pay3 _) (k0_pay4 _) (k0_pay5 _) :=
    e1.symm ▸ e2.symm ▸ e3.symm ▸ e4.symm ▸ e5.symm ▸ hfit
  have e183 := (View.readAt_full arg11.view (harg11.unread xs1) inb_S8x512_S8x512_0_0).trans (hg1.trans hs1)
  have e184 := (View.readAt_full arg12.view (harg12.unread xs2) inb_S8x512_S8x512_0_0).trans (hg2.trans hs2)
  have e179 := (View.readAt_full arg13.view (harg13.unread xs3) inb_S8x512_S8x512_0_0).trans (hg3.trans hs3)
  have hloop := loop_done Variants.none c none i arg2 harg2 arg3 harg3 arg4 harg4 arg5 harg5 arg6 harg6 arg7 harg7 arg8 harg8 arg9 harg9 arg10 harg10 arg11 harg11 arg12 harg12 arg13 harg13 arg14 harg14
    (BitVec.ofNat 32 (i 1).val) _ _ _ _ _ hc0 _ T hfit' hX e183 e184
  have er : run_mid.sl.r c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs1 xs2 = emaAt Ln (T + 255) := hloop.ema
  have er1 : run_mid.sl.r_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs1 xs2 = cntAt Ln (T + 255) := hloop.cnt
  have er2 : run_mid.sl.r_2 c arg2 harg2 arg6 harg6 arg10 x0 x4 = k0_pay53 x4 (run_mid.sl.v187 c arg2 harg2 arg10 x0) :=
    congrArg (fun v => k0_pay53 v _) e4
  have er3 : run_mid.sl.r_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs1 xs2 = k0_pay54 x4 (emaAt Ln (T + 255)) (run_mid.sl.v187 c arg2 harg2 arg10 x0) :=
    congrArg₂ (fun v e => k0_pay54 v e _) e4 er
  have er4 : k0_pay6 (run_mid.sl.r_4 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs1 xs2) = spkAt Ln (T + 255) := by
    unfold run_mid.sl.r_4
    rw [er, er1, er2, er3, e1, e2, e3]
    exact pay58_eq hfit h187
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr; swap; · iexact H6
    ipureintro
    exact va_read hloop arg8 _ _ _ fun j => by rw [e179]; exact pay44_eq Ln T j
  isplitl [H7]
  · iexists _; isplitr; swap; · iexact H7
    ipureintro
    refine sp_read hloop arg9 _ _ _ fun j => ?_
    rw [er, er1, er2, er3, e1, e2, e3]
    exact pay59_eq hfit h187 j
  isplitl [HS0]
  · iexists _, _; isplitr; swap; · iexact HS0
    ipureintro; rfl
  isplitl [HS1]
  · iexists _; isplitr; swap; · iexact HS1
    ipureintro
    refine (View.read_writes_full _ _ _ _ _).trans ?_
    rw [er, er3]
    exact pay60_eq hfit h187
  isplitl [HS2]
  · iexists _; isplitr; swap; · iexact HS2
    ipureintro
    refine (View.read_writes_full _ _ _ _ _).trans ?_
    rw [er, er1, er2, er3, e1, e2, e3, e5]
    exact pay61_eq hfit h187
  isplitl [HS3]
  · iexists _; isplitr; swap; · iexact HS3
    ipureintro
    refine (View.read_writes_full _ _ _ _ _).trans ?_
    rw [er, er1, er2, er3, e1, e2, e3]
    exact pay62_eq hfit h187
  iexists _; isplitr; swap; · iexact HS4
  ipureintro
  refine (View.read_writes_full _ _ _ _ _).trans ?_
  exact er4

end Cert.KernelIdeal.Hand

end
-- ==== Proof.K.RunC.lean ====
module

public import proofs.«01_k».proof.Proof.K.RunA

@[expose] public section

/-! The body at the last point along time: only the one row left over is written, from the scratch buffers. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Lane

variable {F : FTy → Type} [FloatOps F]

local notation "𝕄" => MT nD τ sig Unit (Elt F) ℕ (UR sig nD τ) ℕ

/-- A one-row store at row zero: what every index of row zero then holds. -/
theorem row_zero {e : EltTy} (arg : Memref sig .tc .vmem S256x8x512 e) (f : BufTy.Contents (Elt F) arg.view.ty)
    (G : S256x8x512.Idx → Elt F e) (inb : ∀ a, (![0, 0, 0] : Fin 3 → ℕ) a + S1x8x512.size a ≤ S256x8x512.size a)
    (w : Vec F S1x8x512 e)
    (hw : ∀ x : S1x8x512.Idx, w x = G (ix3 (⟨0, by omega⟩ : Fin 256) (x 1) (x 2))) :
    ∀ y : S256x8x512.Idx, (y 0).val = 0 →
      arg.view.read (Elt F) (arg.view.writes (Elt F) f [⟨Rect.unit (s := S256x8x512) ![0, 0, 0] S1x8x512.size inb, w⟩]) y = G y := by
  intro y hy
  refine View.read_writes_apply_of_pieces arg.view f G _ ?_ y ⟨_, List.mem_cons_self, mem_row 0 rfl inb y hy⟩
  intro p hp x
  obtain rfl := List.mem_singleton.mp hp
  rw [emb_row 0 rfl inb x (by omega)]
  exact hw x

set_option maxHeartbeats 1000000 in
/-- The body at the last point along time, on any buffers. -/
theorem run_last (c : Dev nD) (i : grid0.Coords)
    (arg2 : Memref sig .tc .vmem S8x256x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S1x512 .i32) (harg7 : arg7.IsWhole)
    (arg8 : Memref sig .tc .vmem S256x8x512 .f32) (harg8 : arg8.IsWhole)
    (arg9 : Memref sig .tc .vmem S256x8x512 .i8) (harg9 : arg9.IsWhole)
    (arg10 : Memref sig .tc .vmem S256x8x512 .f32) (harg10 : arg10.IsWhole)
    (arg11 : Memref sig .tc .vmem S8x512 .f32) (harg11 : arg11.IsWhole)
    (arg12 : Memref sig .tc .vmem S8x512 .i32) (harg12 : arg12.IsWhole)
    (arg13 : Memref sig .tc .vmem S8x512 .f32) (harg13 : arg13.IsWhole)
    (arg14 : Memref sig .tc .vmem S8x512 .i32) (harg14 : arg14.IsWhole)
    (hc0 : ¬rows i) (hc2 : last i)
    (x0 : Vec F S8x256x512 .f32) (x1 x2 x3 x4 : Vec F S1x512 .f32) (x5 : Vec F S1x512 .i32)
    (xs3 : Vec F S8x512 .f32) (xs4 : Vec F S8x512 .i32)
    {Ln : Fin 8 → Fin 512 → Lane F} (T S : ℕ) (hs3 : xs3 = vaAt Ln T) (hs4 : xs4 = spkAt Ln S)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, iprop(⌜∀ y, (y 0).val = 0 → d y = (Ln (y 1) (y 2)).va T⌝) ∗ owns (c : Thread nD τ) arg8 fullShare d) ∗ (∃ d, iprop(⌜∀ y, (y 0).val = 0 → d y = BitVec.setWidth 8 ((Ln (y 1) (y 2)).spk S)⌝) ∗ owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E
          (cc0_faneuron_scan i arg2 harg2 arg3 harg3 arg4 harg4 arg5 harg5 arg6 harg6 arg7 harg7 arg8 harg8 arg9 harg9 arg10 harg10 arg11 harg11 arg12 harg12 arg13 harg13 arg14 harg14) K := by
  simp only [cc0_faneuron_scan_eq_skeleton]; unfold cc0_faneuron_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%ds0, %fs0, -, HS0⟩, ⟨%ds1, %fs1, -, HS1⟩, ⟨%ds2, %fs2, -, HS2⟩,
    ⟨%fs3, %hg3, HS3⟩, ⟨%fs4, %hg4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg13.eq_unread hg3; obtain rfl := harg14.eq_unread hg4
  sl_exec (disch := first | sl_exact hc0 | sl_exact hc2)
  sl_step
  have e3 := (View.readAt_full arg13.view (harg13.unread xs3) inb_S8x512_S8x512_0_0).trans (hg3.trans hs3)
  have e4 := (View.readAt_full arg14.view (harg14.unread xs4) inb_S8x512_S8x512_0_0).trans (hg4.trans hs4)
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro
      exact row_zero arg8 f6 (fun y => (Ln (y 1) (y 2)).va T) inb_S256x8x512_S1x8x512_0_0_0 _ fun x =>
        (congrArg (fun v => k0_pay7 v x) e3).trans (pay7_eq Ln T x)
    iexists _; isplitr; swap; · iexact H6
    ipureintro; rfl
  isplitl [H7]
  · iexists _; isplitr
    · ipureintro
      exact row_zero arg9 f7 (fun y => BitVec.setWidth 8 ((Ln (y 1) (y 2)).spk S)) inb_S256x8x512_S1x8x512_0_0_0 _ fun x =>
        (congrArg (fun v => k0_pay8 v x) e4).trans (pay8_eq Ln S x)
    iexists _; isplitr; swap; · iexact H7
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Hand

end
-- ==== Proof.K.Body.lean ====
module

public import proofs.«01_k».proof.Proof.K.Data
public import proofs.«01_k».proof.Proof.K.RunB
public import proofs.«01_k».proof.Proof.K.RunC

@[expose] public section

/-! The proof data of the pipeline and the body's obligation at every point: what each staging buffer and each scratch
buffer holds between points, in terms of the lanes. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Lane

variable {F : FTy → Type} [FloatOps F]

local notation "𝕄" => MT nD τ sig Unit (Elt F) ℕ (UR sig nD τ) ℕ

variable (m : (ℓ : Loc nD τ sig) → Buf (Elt F) ℓ)

/-! ## The branch conditions, by the point -/

theorem rows_iff : ∀ t : Fin cfg0.N, rows (grid0.coords t) ↔ t.val % 17 ≤ 15 :=
  (by decide +kernel : ∀ t : Fin grid0.N, rows (grid0.coords t) ↔ t.val % 17 ≤ 15)
theorem first_iff : ∀ t : Fin cfg0.N, first (grid0.coords t) ↔ t.val % 17 = 0 :=
  (by decide +kernel : ∀ t : Fin grid0.N, first (grid0.coords t) ↔ t.val % 17 = 0)
theorem last_iff : ∀ t : Fin cfg0.N, last (grid0.coords t) ↔ t.val % 17 = 16 :=
  (by decide +kernel : ∀ t : Fin grid0.N, last (grid0.coords t) ↔ t.val % 17 = 16)

/-! ## The scratch buffers between points -/

/-- The five scratch buffers, whole. -/
abbrev sc0 : Memref sig .tc .vmem S256x8x512 .f32 := Memref.whole cc0_scratch0
abbrev sc1 : Memref sig .tc .vmem S8x512 .f32 := Memref.whole cc0_scratch1
abbrev sc2 : Memref sig .tc .vmem S8x512 .i32 := Memref.whole cc0_scratch2
abbrev sc3 : Memref sig .tc .vmem S8x512 .f32 := Memref.whole cc0_scratch3
abbrev sc4 : Memref sig .tc .vmem S8x512 .i32 := Memref.whole cc0_scratch4

/-- The scratch buffers at any contents. -/
theorem scratch_any (c : Dev nD) :
    Pipeline.ΦA (Val := Elt F) spec0 c = (iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)
      ∗ (∃ d, owns (c : Thread nD τ) sc4 fullShare d)) ∗ (∃ r, prngReg c r)) : sProp 𝕄) := by
  unfold Pipeline.ΦA; rw [scopedRest0_eq]; simp only [sc0, sc1, sc2, sc3, sc4, owns_whole]; try rfl

/-- The scratch buffers holding lanes' state before step `T`, and the firing bit of step `S`. -/
def Held (c : Dev nD) (L : Fin 8 → Fin 512 → Lane F) (T S : ℕ) : sProp 𝕄 :=
  iprop(iprop((∃ d, owns (c : Thread nD τ) sc0 fullShare d) ∗ owns (c : Thread nD τ) sc1 fullShare (emaAt L T)
      ∗ owns (c : Thread nD τ) sc2 fullShare (cntAt L T) ∗ owns (c : Thread nD τ) sc3 fullShare (vaAt L T)
      ∗ owns (c : Thread nD τ) sc4 fullShare (spkAt L S)) ∗ (∃ r, prngReg c r))

/-- The scratch buffers before point `n`: at the first point along time anything, later the state of the lanes. -/
def Scr (c : Dev nD) (n : ℕ) : sProp 𝕄 :=
  if n % 17 = 0 then Pipeline.ΦA spec0 c else Held c (grp m c n) (256 * (n % 17)) (256 * (n % 17) - 1)

theorem Scr_zero (c : Dev nD) (n : ℕ) (h : n % 17 = 0) : Scr m c n = Pipeline.ΦA spec0 c := if_pos h

theorem Scr_pos (c : Dev nD) (n : ℕ) (h : n % 17 ≠ 0) :
    Scr m c n = Held c (grp m c n) (256 * (n % 17)) (256 * (n % 17) - 1) := if_neg h

/-- After a point with rows: the state 256 steps on. -/
theorem Scr_succ (c : Dev nD) (n : ℕ) (h : n % 17 ≤ 15) :
    Scr m c (n + 1) = Held c (grp m c n) (256 * (n % 17) + 256) (256 * (n % 17) + 255) := by
  have h1 : (n + 1) % 17 = n % 17 + 1 := by omega
  have h2 : (n + 1) / 17 = n / 17 := by omega
  have h3 : grp m c (n + 1) = grp m c n := by unfold grp; simp only [h2]
  rw [Scr_pos m c _ (by omega), h1, h3]
  congr 1

/-! ## The proof data -/

/-- The voltages' block at a point, and the firing bits'. -/
def outVa (c : Dev nD) (n : ℕ) : Vec F S256x8x512 .f32 := vaBlk (grp m c n) (256 * (n % 17))
def outSp (c : Dev nD) (n : ℕ) : Vec F S256x8x512 .i8 := fun y =>
  BitVec.setWidth 8 ((grp m c n (y 1) (y 2)).spk (min (256 * (n % 17) + (y 0).val) 4095))

/-- The arrays as the region finds them; after a point each input's buffer at its block and the results' at theirs; the
scratch buffers as said above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVa m c t.val
    | ⟨7, _⟩ => outSp m c t.val
  Φ t := Scr m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outVa m c t.val := by dsimp only [dats]
theorem after_7 (c : Dev nD) (t : Fin cfg0.N) : (dats m 0 c).after 7 t = outSp m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The results' buffers on the part a transfer moves -/

theorem xsize_6 : ∀ t : Fin cfg0.N, t.val % 17 = 16 → win0_6.xsize (grid0.coords t) 0 = 1 :=
  (by decide +kernel : ∀ t : Fin grid0.N, t.val % 17 = 16 → win0_6.xsize (grid0.coords t) 0 = 1)
theorem xsize_7 : ∀ t : Fin cfg0.N, t.val % 17 = 16 → win0_7.xsize (grid0.coords t) 0 = 1 :=
  (by decide +kernel : ∀ t : Fin grid0.N, t.val % 17 = 16 → win0_7.xsize (grid0.coords t) 0 = 1)

/-- At the last point along time only the first row of the block is moved. -/
theorem moved_6 (t : Fin cfg0.N) (h : t.val % 17 = 16) (X Y : Vec F S256x8x512 .f32) (hXY : ∀ y, (y 0).val = 0 → X y = Y y) :
    win0_6.fill (grid0.coords t) X (win0_6.cut (grid0.coords t) Y) = X :=
  win0_6.fill_congr_cut _ (funext fun j => hXY _ (by
    have h1 : (j 0).val < win0_6.xsize (grid0.coords t) 0 := (j 0).isLt
    rw [xsize_6 t h] at h1
    show (j 0).val = 0
    omega))
theorem moved_7 (t : Fin cfg0.N) (h : t.val % 17 = 16) (X Y : Vec F S256x8x512 .i8) (hXY : ∀ y, (y 0).val = 0 → X y = Y y) :
    win0_7.fill (grid0.coords t) X (win0_7.cut (grid0.coords t) Y) = X :=
  win0_7.fill_congr_cut _ (funext fun j => hXY _ (by
    have h1 : (j 0).val < win0_7.xsize (grid0.coords t) 0 := (j 0).isLt
    rw [xsize_7 t h] at h1
    show (j 0).val = 0
    omega))

theorem outSp_eq (c : Dev nD) (n : ℕ) (h : n % 17 ≤ 15) : outSp m c n = spBlk (grp m c n) (256 * (n % 17)) := by
  funext y
  have hy : (y 0).val < 256 := (y 0).isLt
  show BitVec.setWidth 8 ((grp m c n (y 1) (y 2)).spk (min (256 * (n % 17) + (y 0).val) 4095)) = BitVec.setWidth 8 ((grp m c n (y 1) (y 2)).spk (256 * (n % 17) + (y 0).val))
  rw [Nat.min_eq_left (by omega)]

/-! ## The body at every point -/

/-- What a point is entered with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it leaves: each input's buffer as found, the results' at the point's blocks on the part that is moved. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t))))
    ∗ (∃ d, owns (c : Thread nD τ) (st0_7 t) fullShare (win0_7.fill (grid0.coords t) d (win0_7.cut (grid0.coords t) ((dats m 0 c).after 7 t)))))

set_option maxHeartbeats 4000000 in
/-- The body at every point, by the three runs. -/
theorem sound_body (c : Dev nD) (t : Fin cfg0.N) :
    bodyPre m c t ⊢ wp frame (wpE (defs₀ (F := F)) Variants.none c none) Set.univ (bodyAt0 t) (fun _ => bodyPost m c t) := by
  have ht := point_lt t
  unfold bodyPre bodyPost bodyAt0
  simp only [before_0, before_1, before_2, before_3, before_4, before_5, after_0, after_1, after_2, after_3, after_4, after_5,
    after_6, after_7]
  rw [show (dats m 0 c).owesAt () t.succ = (dats m 0 c).owesAt () t.castSucc from rfl,
    show (dats m 0 c).Φ t.succ = Scr m c (t.val + 1) from rfl,
    show (dats m 0 c).Φ t.castSucc = Scr m c t.val from rfl]
  by_cases h0 : t.val % 17 ≤ 15
  · rw [Scr_succ m c _ h0, outSp_eq m c _ h0]
    unfold outVa
    by_cases h1 : t.val % 17 = 0
    · rw [Scr_zero m c _ h1, scratch_any]
      unfold Held
      rw [h1]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_first c (grid0.coords t) _ _ _ _ _ _ _ _ _ _ _ _ _ _ _ _ _ _ _ _ _ _ _ _ _ _
        ((rows_iff t).mpr h0) ((first_iff t).mpr h1) (fun h => absurd ((last_iff t).mp h) (by omega))
        (iblk m c 0 t) (iblk m c 1 t) (iblk m c 2 t) (iblk m c 3 t) (iblk m c 4 t) (iblk m c 5 t)
        (fits m c t) (fun b k f => (rows_read m c t h0 b k f).trans (by rw [h1, Nat.mul_zero, Nat.zero_add])) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; rw [win0_6.fill_cut]; iexact H6
      iexists _; rw [win0_7.fill_cut]; iexact H7
    · rw [Scr_pos m c _ h1]
      unfold Held
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) _ _ _ _ _ _ _ _ _ _ _ _ _ _ _ _ _ _ _ _ _ _ _ _ _ _
        ((rows_iff t).mpr h0) (fun h => h1 ((first_iff t).mp h)) (fun h => absurd ((last_iff t).mp h) (by omega))
        (iblk m c 0 t) (iblk m c 1 t) (iblk m c 2 t) (iblk m c 3 t) (iblk m c 4 t) (iblk m c 5 t) _ _ _ (256 * (t.val % 17))
        (fits m c t) (rows_read m c t h0) rfl rfl rfl Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexists _; iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; rw [win0_6.fill_cut]; iexact H6
      iexists _; rw [win0_7.fill_cut]; iexact H7
  · have h2 : t.val % 17 = 16 := by omega
    rw [Scr_zero m c (t.val + 1) (by omega), scratch_any, Scr_pos m c t.val (by omega)]
    unfold Held
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c (grid0.coords t) _ _ _ _ _ _ _ _ _ _ _ _ _ _ _ _ _ _ _ _ _ _ _ _ _ _
      (fun h => h0 ((rows_iff t).mp h)) ((last_iff t).mpr h2)
      (iblk m c 0 t) (iblk m c 1 t) (iblk m c 2 t) (iblk m c 3 t) (iblk m c 4 t) (iblk m c 5 t) _ _
      (256 * (t.val % 17)) (256 * (t.val % 17) - 1) rfl rfl Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexists _; iexact HS1
    isplitl [HS2]; · iexists _; iexact HS2
    isplitl [HS3]; · iexact HS3
    isplitl [HS4]; · iexact HS4
    iintro ⟨H0, H1, H2, H3, H4, H5, ⟨%e6, %h6, H6⟩, ⟨%e7, %h7, H7⟩, HS0, HS1, HS2, HS3, HS4⟩
    have L6 : ∀ y : S256x8x512.Idx, (y 0).val = 0 → e6 y = outVa m c t.val y := fun y hy => (h6 y hy).trans (by
      show _ = (grp m c t.val (y 1) (y 2)).va (256 * (t.val % 17) + (y 0).val)
      rw [hy, Nat.add_zero])
    have L7 : ∀ y : S256x8x512.Idx, (y 0).val = 0 → e7 y = outSp m c t.val y := fun y hy => (h7 y hy).trans (by
      show _ = BitVec.setWidth 8 ((grp m c t.val (y 1) (y 2)).spk (min (256 * (t.val % 17) + (y 0).val) 4095))
      have e : (256 * 16 - 1 : ℕ) = min (256 * 16 + 0) 4095 := by decide
      rw [hy, h2, e])
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists e6; rw [moved_6 t h2 e6 (outVa m c t.val) L6]; iexact H6
    iexists e7; rw [moved_7 t h2 e7 (outSp m c t.val) L7]; iexact H7

end Cert.KernelIdeal.Hand

end
-- ==== Proof.K.Oblig.lean ====
module

public import proofs.«01_k».proof.Proof.K.Body

@[expose] public section

/-! The body's obligation in the form the pipeline's loop takes it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Lane

variable {F : FTy → Type} [FloatOps F]

local notation "𝕄" => MT nD τ sig Unit (Elt F) ℕ (UR sig nD τ) ℕ

variable (m : (ℓ : Loc nD τ sig) → Buf (Elt F) ℓ)

theorem defs₀_row (t : Fin cfg0.N) :
    defs₀ (F := F) .tc cfg0.body (cfg0.bodyArgs t (cfg0.slots t)) = bodyAt0 t := by
  unfold defs₀; rw [Defs.onTc_tc]

/-- Every point stores into the results' blocks. -/
theorem live_6 : ∀ t : Fin cfg0.N, cfg0.idle 6 (cfg0.grid.coords t) = false :=
  (by decide +kernel : ∀ t : Fin grid0.N, idle0 6 (grid0.coords t) = false)

/-- The obligation the pipeline's loop asks of the body. -/
theorem body_obligation (c : Dev nD) : BodyObligationLoose (dats (F := F) m 0 c) (defs₀ (F := F)) Variants.none () Set.univ := fun t => by
  rw [bigSep_W0, bigSep_W0, defs₀_row, live_6]
  exact triple_restated (sound_body m c t) rfl .rfl fun _ => .rfl

/-- At the region's ends the scratch buffers hold anything. -/
theorem hin (c : Dev nD) : Pipeline.ΦA spec0 c ⊢ (dats m 0 c).Φ 0 := by
  rw [show (dats m 0 c).Φ 0 = Scr m c 0 from rfl, Scr_zero m c 0 rfl]
theorem hout (c : Dev nD) : (dats m 0 c).Φ (Fin.last cfg0.N) ⊢ Pipeline.ΦA spec0 c := by
  rw [show (dats m 0 c).Φ (Fin.last cfg0.N) = Scr m c cfg0.N from rfl, Scr_zero m c cfg0.N (by rw [show cfg0.N = 34 from N_0])]

end Cert.KernelIdeal.Hand

end
-- ==== Proof.K.Run.lean ====
module

public import proofs.«01_k».proof.Proof.K.Oblig

@[expose] public section

/-! The run of the whole program, and its frame. -/

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation BodyObligationLoose cellOf)
open Cert.KernelIdeal.Gen Cert.Lane

variable {F : FTy → Type} [FloatOps F]

variable (m : (ℓ : Loc nD τ sig) → Buf (Elt F) ℓ) (ρ : Dev nD → PrngReg)

/-- What the run leaves: every array the region and the operations after it write, and the rest as it was. -/
abbrev Leaves := Pipeline.FramePost cfgs (dats m) (0 : Fin 1) (Pipeline.afterTail₀ cfgs (dats m) (0 : Fin 1) (V0 m) [hostOps1])

set_option backward.isDefEq.respectTransparency.types false in
set_option maxHeartbeats 800000 in
/-- The program ends, leaves the arrays so, and every counter at zero. -/
theorem run_quiescent : θ_run defs (onTc (τ := τ) (main (F := F))) (s₀ m ρ) (fun r => Leaves m r ∧ r.2.sem = fun _ => 0) :=
  Pipeline.θ_run_frame_around_track (Q' := fun r => Leaves m r ∧ r.2.sem = fun _ => 0) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run : θ_run defs (onTc (τ := τ) (main (F := F))) (s₀ m ρ) (Leaves m) :=
  (θ_run defs _ _).mono (fun _ h => h.1) (run_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiescent m ρ))

end Cert.KernelIdeal.Hand

end
-- ==== Proof.Args.lean ====
module

public import proofs.«01_k».proof.Proof.Lane

@[expose] public section

/-! The neurons the arguments describe. -/

noncomputable section

namespace Cert.Lane

open Idealize.ShloMosaic

variable {F : FTy → Type} [FloatOps F]

/-- The number of refractory steps, off the refractory time. -/
def steps (d : F .f32) : BitVec 32 :=
  FloatOps.fptosi 32 (FloatOps.maximumf (FloatOps.hostUnary .ceil (FloatOps.hostDivf d (FloatOps.ofBits .f32 0x3D4CCCCD#32))) (FloatOps.ofBits .f32 0x3F800000#32))

/-- The neuron of a batch row and a feature, off the arguments' entries; a time past the last reads the last drive. -/
def ofArgs (X : Fin 16 → Fin 4096 → Fin 512 → F .f32) (vb a th g d : Fin 512 → F .f32) (b : Fin 16) (f : Fin 512) : Lane F where
  vb := vb f
  a := a f
  th := th f
  g := g f
  rs := steps (d f)
  x t := X b ⟨min t 4095, by omega⟩ f

end Cert.Lane

end
-- ==== Proof.K.Final.lean ====
module

public import proofs.«01_k».proof.Proof.K.Run
public import proofs.«01_k».proof.Proof.Args
public import Idealize.ShloMosaic.Lib.Claim

@[expose] public section

/-! What the run leaves in the two result arrays, entry by entry: the lanes' voltages and firings. -/

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen Cert.Lane

variable {F : FTy → Type} [FloatOps F]

variable (m : (ℓ : Loc nD τ sig) → Buf (Elt F) ℓ)

/-- The voltages, time first. -/
def allVa (c : Dev nD) : Vec F S4097x16x512 .f32 := fun i => (lane m c (i 1) (i 2)).va (i 0).val

/-- The firings, time first; the row past the last repeats the last. -/
def allSp (c : Dev nD) : Vec F S4097x16x512 .i8 := fun i =>
  BitVec.setWidth 8 ((lane m c (i 1) (i 2)).spk (min (i 0).val 4095))

/-- The voltage a point leaves at a place of its block is the array's entry there. -/
theorem va_at (c : Dev nD) (n : ℕ) (hn : n < 34) (z : S256x8x512.Idx) (e : S4097x16x512.Idx) (h0 : (e 0).val = 256 * (n % 17) + (z 0).val)
    (h1 : (e 1).val = 8 * (n / 17) + (z 1).val) (h2 : (e 2).val = (z 2).val) : outVa m c n z = allVa m c e := by
  have hb : (e 1).val < 16 := (e 1).isLt
  show (lane m c ⟨(8 * (n / 17) + (z 1).val) % 16, by omega⟩ (z 2)).va (256 * (n % 17) + (z 0).val) = (lane m c (e 1) (e 2)).va (e 0).val
  rw [← h0, show (⟨(8 * (n / 17) + (z 1).val) % 16, by omega⟩ : Fin 16) = e 1 from Fin.ext (by show (8 * (n / 17) + (z 1).val) % 16 = _; omega),
    show z 2 = e 2 from Fin.ext h2.symm]

/-- The same for the firings. -/
theorem sp_at (c : Dev nD) (n : ℕ) (hn : n < 34) (z : S256x8x512.Idx) (e : S4097x16x512.Idx) (h0 : (e 0).val = 256 * (n % 17) + (z 0).val)
    (h1 : (e 1).val = 8 * (n / 17) + (z 1).val) (h2 : (e 2).val = (z 2).val) : outSp m c n z = allSp m c e := by
  have hb : (e 1).val < 16 := (e 1).isLt
  show BitVec.setWidth 8 ((lane m c ⟨(8 * (n / 17) + (z 1).val) % 16, by omega⟩ (z 2)).spk (min (256 * (n % 17) + (z 0).val) 4095))
    = BitVec.setWidth 8 ((lane m c (e 1) (e 2)).spk (min (e 0).val 4095))
  rw [← h0, show (⟨(8 * (n / 17) + (z 1).val) % 16, by omega⟩ : Fin 16) = e 1 from Fin.ext (by show (8 * (n / 17) + (z 1).val) % 16 = _; omega),
    show z 2 = e 2 from Fin.ext h2.symm]

theorem final_6 (c : Dev nD) : (dats m 0 c).arrAt 6 (cfgs 0).N = allVa m c := by
  refine (dats m 0 c).arrAt_eq_of_covers 6 _ (by decide +kernel) fun t hf y => ?_
  blk_simp
  rw [after_6]
  refine va_at m c t.val (point_lt t) _ _ ?_ ?_ ?_
  all_goals blk_simp [idx_6 t]
  · exact congrArg₂ (· + ·) (Nat.mul_comm _ _) rfl
  · exact congrArg₂ (· + ·) (Nat.mul_comm _ _) rfl

theorem final_7 (c : Dev nD) : (dats m 0 c).arrAt 7 (cfgs 0).N = allSp m c := by
  refine (dats m 0 c).arrAt_eq_of_covers 7 _ (by decide +kernel) fun t hf y => ?_
  blk_simp
  rw [after_7]
  refine sp_at m c t.val (point_lt t) _ _ ?_ ?_ ?_
  all_goals blk_simp [idx_7 t]
  · exact congrArg₂ (· + ·) (Nat.mul_comm _ _) rfl
  · exact congrArg₂ (· + ·) (Nat.mul_comm _ _) rfl

/-- The first result: the voltages, batch first. -/
theorem left_va (c : Dev nD) : Pipeline.afterTail₀ cfgs (dats m) 0 (V0 m) [hostOps1] c main_v12
    = transpose S16x4097x512 [1, 0, 2] (allVa m c) transposes_S4097x16x512_S16x4097x512_1_0_2 := by
  unfold Pipeline.afterTail₀
  simp only [List.flatten_cons, List.flatten_nil, List.append_nil]
  after_results
  rw [← final_6]
  exact congrArg (fun A => transpose S16x4097x512 [1, 0, 2] A transposes_S4097x16x512_S16x4097x512_1_0_2)
    (Pipeline.withArrays_arr spec0 launch0.win.arr_inj c _ _ 6)

/-- The second: where the firings differ from zero. -/
theorem left_sp (c : Dev nD) : Pipeline.afterTail₀ cfgs (dats m) 0 (V0 m) [hostOps1] c main_v16
    = cmpi .ne (transpose S16x4097x512 [1, 0, 2] (allSp m c) transposes_S4097x16x512_S16x4097x512_1_0_2)
        (broadcastInDim S16x4097x512 ![] bcast_S_S16x4097x512 (constantI S_ 8 0#8 : IVec S_ 8)) := by
  unfold Pipeline.afterTail₀
  simp only [List.flatten_cons, List.flatten_nil, List.append_nil]
  after_results
  rw [← final_7]
  exact congrArg (fun A => cmpi .ne (transpose S16x4097x512 [1, 0, 2] A transposes_S4097x16x512_S16x4097x512_1_0_2)
        (broadcastInDim S16x4097x512 ![] bcast_S_S16x4097x512 (constantI S_ 8 0#8 : IVec S_ 8)))
    (Pipeline.withArrays_arr spec0 launch0.win.arr_inj c _ _ 7)

/-- A bit widened to a byte differs from zero when it is set. -/
theorem bit_ne (b : BitVec 1) : IntOp.cmpi .ne (BitVec.setWidth 8 b) 0#8 = b := by revert b; decide

theorem va_entry (c : Dev nD) (b : Fin 16) (t : Fin 4097) (f : Fin 512) :
    (transpose S16x4097x512 [1, 0, 2] (allVa m c) transposes_S4097x16x512_S16x4097x512_1_0_2) (ix3 b t f) = (lane m c b f).va t.val := by
  pointwise []
  rfl

theorem sp_entry (c : Dev nD) (b : Fin 16) (t : Fin 4097) (f : Fin 512) :
    (cmpi .ne (transpose S16x4097x512 [1, 0, 2] (allSp m c) transposes_S4097x16x512_S16x4097x512_1_0_2)
        (broadcastInDim S16x4097x512 ![] bcast_S_S16x4097x512 (constantI S_ 8 0#8 : IVec S_ 8))) (ix3 b t f)
      = (lane m c b f).spk (min t.val 4095) := by
  pointwise []
  exact bit_ne _

/-! ## The lanes' constants, off the arguments -/

theorem lane_vb (c : Dev nD) (b : Fin 16) (f : Fin 512) : (lane m c b f).vb = (m ((c : Thread nD τ).loc main_arg1) : Vec F S512 .f32) (ix1 f) := by
  show V m c main_v6 (ix2 0 f) = _
  show StableHlo.after [hostOps0].flatten (fun b => m (c, b)) (Proc.tc.devRef main_v6) (ix2 0 f) = _
  simp only [List.flatten_cons, List.flatten_nil, List.append_nil]
  after_results
  pointwise []

theorem lane_a (c : Dev nD) (b : Fin 16) (f : Fin 512) : (lane m c b f).a = (m ((c : Thread nD τ).loc main_arg2) : Vec F S512 .f32) (ix1 f) := by
  show V m c main_v7 (ix2 0 f) = _
  show StableHlo.after [hostOps0].flatten (fun b => m (c, b)) (Proc.tc.devRef main_v7) (ix2 0 f) = _
  simp only [List.flatten_cons, List.flatten_nil, List.append_nil]
  after_results
  pointwise []

theorem lane_th (c : Dev nD) (b : Fin 16) (f : Fin 512) : (lane m c b f).th = (m ((c : Thread nD τ).loc main_arg3) : Vec F S512 .f32) (ix1 f) := by
  show V m c main_v8 (ix2 0 f) = _
  show StableHlo.after [hostOps0].flatten (fun b => m (c, b)) (Proc.tc.devRef main_v8) (ix2 0 f) = _
  simp only [List.flatten_cons, List.flatten_nil, List.append_nil]
  after_results
  pointwise []

theorem lane_g (c : Dev nD) (b : Fin 16) (f : Fin 512) : (lane m c b f).g = (m ((c : Thread nD τ).loc main_arg4) : Vec F S512 .f32) (ix1 f) := by
  show V m c main_v9 (ix2 0 f) = _
  show StableHlo.after [hostOps0].flatten (fun b => m (c, b)) (Proc.tc.devRef main_v9) (ix2 0 f) = _
  simp only [List.flatten_cons, List.flatten_nil, List.append_nil]
  after_results
  pointwise []

theorem lane_rs (c : Dev nD) (b : Fin 16) (f : Fin 512) :
    (lane m c b f).rs = steps ((m ((c : Thread nD τ).loc main_arg5) : Vec F S512 .f32) (ix1 f)) := by
  show V m c main_v10 (ix2 0 f) = _
  show StableHlo.after [hostOps0].flatten (fun b => m (c, b)) (Proc.tc.devRef main_v10) (ix2 0 f) = _
  simp only [List.flatten_cons, List.flatten_nil, List.append_nil]
  after_results
  pointwise [steps]

theorem lane_x (c : Dev nD) (b : Fin 16) (f : Fin 512) (t : ℕ) :
    (lane m c b f).x t = (m ((c : Thread nD τ).loc main_arg0) : Vec F S16x4096x512 .f32) (ix3 b ⟨min t 4095, by omega⟩ f) := by
  show V m c main_arg0 (ix3 b ⟨min t 4095, _⟩ f) = _
  rw [V_main_arg0]

/-- The lanes are the neurons the arguments describe. -/
theorem lane_eq (c : Dev nD) (b : Fin 16) (f : Fin 512) : lane m c b f = ofArgs
    (fun b t f => (m ((c : Thread nD τ).loc main_arg0) : Vec F S16x4096x512 .f32) (ix3 b t f))
    (fun f => (m ((c : Thread nD τ).loc main_arg1) : Vec F S512 .f32) (ix1 f)) (fun f => (m ((c : Thread nD τ).loc main_arg2) : Vec F S512 .f32) (ix1 f))
    (fun f => (m ((c : Thread nD τ).loc main_arg3) : Vec F S512 .f32) (ix1 f)) (fun f => (m ((c : Thread nD τ).loc main_arg4) : Vec F S512 .f32) (ix1 f))
    (fun f => (m ((c : Thread nD τ).loc main_arg5) : Vec F S512 .f32) (ix1 f)) b f := by
  unfold ofArgs
  beta_reduce
  rw [← lane_vb m c b f, ← lane_a m c b f, ← lane_th m c b f, ← lane_g m c b f, ← lane_rs m c b f]
  simp only [← lane_x m c b f]

end Cert.KernelIdeal.Hand

end
-- ==== Proof.R.Lane.lean ====
module

public import proofs.«01_k».proof.Proof.Lane

@[expose] public section

/-! The recursion the reference carries out on one neuron: it starts at a mean of zero, and its first step sets the mean
to the drive in place of moving it. -/

set_option maxRecDepth 16384

noncomputable section

namespace Cert.Lane

open Idealize.ShloMosaic

variable {F : FTy → Type} [FloatOps F]

namespace Lane

variable (L : Lane F)

/-- The mean after time `t`. -/
def mean (t : ℕ) (e : F .f32) : F .f32 :=
  Scalar.select (IntOp.cmpi .eq (BitVec.ofNat 32 t) 0#32) (L.drive t) (L.smooth t e)

/-- The state (mean, refractory count) before time `t`. -/
def run : ℕ → F .f32 × BitVec 32
  | 0 => (FloatOps.ofBits .f32 0x00000000#32, 0#32)
  | t + 1 => (L.mean t (run t).1, L.count t (L.mean t (run t).1) (run t).2)

/-- The firing bit at time `t`. -/
def runSpk (t : ℕ) : BitVec 1 := L.fires t (L.mean t (L.run t).1) (L.run t).2

/-- The voltage time `t` leaves. -/
def runVolt (t : ℕ) : F .f32 := L.volt t (L.mean t (L.run t).1) (L.run t).2

end Lane

end Cert.Lane

end
-- ==== Proof.R.Step.lean ====
module

public import proofs.«01_k».proof.Proof.R.Lane
public import proofs.«01_k».proof.Proof.Gen.ReferenceIdeal.Run
public import Idealize.ShloMosaic.PureOps.Ideal
public import Idealize.ShloMosaic.Lib.Claim
public import Idealize.ShloMosaic.Lib.Pointwise
public import Idealize.ShloMosaic.Lib.WordCmp
public import Idealize.ShloMosaic.Lib.DynamicIndex
public import Idealize.ShloMosaic.Lib.Pipeline.Value

@[expose] public section

/-! One trip of the reference's loop, entry by entry. -/

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value Cert.Lane

variable {F : FTy → Type} [FloatOps F]

/-- A row read at an index in range is that row. -/
theorem row_read {α : Type} (x : S4096x16x512.Idx → α) (start : Fin 3 → Int) (h) (k : ℕ) (hk : k < 4096)
    (h0 : start 0 = k) (h1 : start 1 = 0) (h2 : start 2 = 0) (z : Fin 1) (b : Fin 16) (f : Fin 512) :
    Host.dynamicSlice S1x16x512 x start h (ix3 z b f) = x (ix3 ⟨k, hk⟩ b f) := by
  rw [Host.dynamicSlice_eq_extractStridedSlice S1x16x512 x start ![k, 0, 0] h
    ⟨rfl, by intro a; fin_cases a <;> simp <;> omega⟩ (by intro a; fin_cases a <;> simp [h0, h1, h2])]
  pointwise []

/-- A word read at an index in range is that word. -/
theorem word_read {α : Type} (x : S4096.Idx → α) (start : Fin 1 → Int) (h) (k : ℕ) (hk : k < 4096)
    (h0 : start 0 = k) (z : Fin 1) :
    Host.dynamicSlice S1 x start h (ix1 z) = x (ix1 ⟨k, hk⟩) := by
  rw [Host.dynamicSlice_eq_extractStridedSlice S1 x start ![k] h
    ⟨rfl, by intro a; fin_cases a; simp; omega⟩ (by intro a; fin_cases a; simp [h0])]
  pointwise []

/-- A row written at an index in range: that row is the new one, the others stay. -/
theorem row_write {α : Type} (x : S4096x16x512.Idx → α) (u : S1x16x512.Idx → α) (start : Fin 3 → Int) (h) (k : ℕ) (hk : k < 4096)
    (h0 : start 0 = k) (h1 : start 1 = 0) (h2 : start 2 = 0) (t : Fin 4096) (b : Fin 16) (f : Fin 512) :
    Host.dynamicUpdateSlice x u start h (ix3 t b f) = if t.val = k then u (ix3 0 b f) else x (ix3 t b f) := by
  have hs : S4096x16x512.Slices ![k, 0, 0] S1x16x512 := ⟨rfl, by intro a; fin_cases a <;> simp <;> omega⟩
  rw [WordCmp.dynamicUpdateSlice_eq_update x u start h ![k, 0, 0] hs (by intro a; fin_cases a <;> simp [h0, h1, h2])]
  pointwise []
  by_cases e : t.val = k
  · rw [dif_pos ⟨by omega, by omega⟩, if_pos e, show (⟨t.val - k, by omega⟩ : Fin 1) = 0 from Subsingleton.elim _ _]
  · rw [dif_neg (by omega), if_neg e]

/-! The terms of one trip over arrays at their vector types. -/

abbrev at3 (w : Vec F S_ .i32) : Fin 3 → Int := fun k => (((![w, constantI S_ 32 0#32, constantI S_ 32 0#32] : Fin 3 → (⟨S_, .i32⟩ : BufTy).Contents (Elt F))) k (Shape.Idx.first h_S_)).toInt
abbrev at1 (w : Vec F S_ .i32) : Fin 1 → Int := fun k => (((![w] : Fin 1 → (⟨S_, .i32⟩ : BufTy).Contents (Elt F))) k (Shape.Idx.first h_S_)).toInt
/-- One number per feature over the batch. -/
def spread (v : Vec F S512 .f32) : Vec F S16x512 .f32 := broadcastInDim S16x512 ![0, 1] bcast_S1x512_S16x512_0_1 (broadcastInDim S1x512 ![1] bcast_S512_S1x512_1 v)
def tDrive (X : Vec F S4096x16x512 .f32) (w : Vec F S_ .i32) (g : Vec F S512 .f32) : Vec F S16x512 .f32 :=
  mulf (shapeCast S16x512 (Host.dynamicSlice S1x16x512 X (at3 w) sliceFits_S4096x16x512_S1x16x512) shapeCasts_S1x16x512_S16x512) (spread g)
def tMean (io : Vec F S4096 .i32) (w : Vec F S_ .i32) (D E : Vec F S16x512 .f32) : Vec F S16x512 .f32 :=
  select (broadcastInDim S16x512 ![] bcast_S_S16x512 (cmpi .eq (shapeCast S_ (Host.dynamicSlice S1 io (at1 w) sliceFits_S4096_S1) shapeCasts_S1_S_) (constantI S_ 32 0#32))) D (addf E (mulf (broadcastInDim S16x512 ![] bcast_S_S16x512 (constant S_ .f32 0x3A83126F#32)) (subf D E)))
def tCand (vb a : Vec F S512 .f32) (D M : Vec F S16x512 .f32) : Vec F S16x512 .f32 :=
  subf (spread vb) (mulf (spread a) (subf D M))
def tRef (R : Vec F S16x512 .i32) : Vec F S16x512 .i1 := cmpi .sgt R (broadcastInDim S16x512 ![] bcast_S_S16x512 (constantI S_ 32 0#32))
def tFires (vb th : Vec F S512 .f32) (C : Vec F S16x512 .f32) (R : Vec F S16x512 .i32) : Vec F S16x512 .i1 :=
  andi (noti (tRef R)) (cmpf .oge (Host.absf (subf C (spread vb))) (spread th))
def tCount (rs : Vec F S512 .i32) (K : Vec F S16x512 .i1) (R : Vec F S16x512 .i32) : Vec F S16x512 .i32 :=
  select K (broadcastInDim S16x512 ![1] bcast_S512_S16x512_1 rs) (select (tRef R) (subi R (broadcastInDim S16x512 ![] bcast_S_S16x512 (constantI S_ 32 1#32))) R)
def tVolt (vb : Vec F S512 .f32) (C : Vec F S16x512 .f32) (K : Vec F S16x512 .i1) (R : Vec F S16x512 .i32) : Vec F S16x512 .f32 :=
  select (ori (tRef R) K) (broadcastInDim S16x512 ![1] bcast_S512_S16x512_1 vb) C
def tRow {e : EltTy} (O : Vec F S4096x16x512 e) (u : Vec F S16x512 e) (w : Vec F S_ .i32) : Vec F S4096x16x512 e :=
  Host.dynamicUpdateSlice O (broadcastInDim S1x16x512 ![1, 2] bcast_S16x512_S1x16x512_1_2 u) (at3 w) updateFits_S4096x16x512_S1x16x512

theorem spread_at (v : Vec F S512 .f32) (b : Fin 16) (f : Fin 512) : spread v (ix2 b f) = v (ix1 f) := by pointwise [spread]

/-- A small index read signed. -/
theorem small (k : ℕ) (hk : k < 4096) : (BitVec.ofNat 32 k).toInt = k := by
  rw [BitVec.toInt_ofNat', Int.bmod_eq_of_le] <;> omega

section
variable (w : Vec F S_ .i32) (k : ℕ) (hk : k < 4096) (hw : ∀ i, w i = BitVec.ofNat 32 k)
include hk hw

theorem at3_0 : at3 w 0 = k := by
  show BitVec.toInt (w _) = k
  rw [hw, small k hk]

theorem at1_0 : at1 w 0 = k := by
  show BitVec.toInt (w _) = k
  rw [hw, small k hk]

theorem tDrive_at (X : Vec F S4096x16x512 .f32) (g : Vec F S512 .f32) (b : Fin 16) (f : Fin 512) :
    tDrive X w g (ix2 b f) = FloatOps.mulf (X (ix3 ⟨k, hk⟩ b f)) (g (ix1 f)) := by
  have e : (Host.dynamicSlice S1x16x512 X (at3 w) sliceFits_S4096x16x512_S1x16x512) = fun j => X (ix3 ⟨k, hk⟩ (j 1) (j 2)) := by
    funext j; idx_vars j
    exact row_read X _ _ k hk (at3_0 w k hk hw) rfl rfl _ _ _
  unfold tDrive
  rw [e]
  pointwise [spread_at]

theorem tMean_at (io : Vec F S4096 .i32) (hio : ∀ t : Fin 4096, io (ix1 t) = BitVec.ofNat 32 t.val) (D E : Vec F S16x512 .f32) (b : Fin 16) (f : Fin 512) :
    tMean io w D E (ix2 b f) = Scalar.select (IntOp.cmpi .eq (BitVec.ofNat 32 k) 0#32) (D (ix2 b f))
      (FloatOps.addf (E (ix2 b f)) (FloatOps.mulf (FloatOps.ofBits .f32 0x3A83126F#32) (FloatOps.subf (D (ix2 b f)) (E (ix2 b f))))) := by
  have e : (Host.dynamicSlice S1 io (at1 w) sliceFits_S4096_S1) = fun j => BitVec.ofNat 32 k := by
    funext j; idx_vars j
    exact (word_read io _ _ k hk (at1_0 w k hk hw) _).trans (hio _)
  unfold tMean
  rw [e]
  pointwise []

theorem tRow_at {e : EltTy} (O : Vec F S4096x16x512 e) (u : Vec F S16x512 e) (t : Fin 4096) (b : Fin 16) (f : Fin 512) :
    tRow O u w (ix3 t b f) = if t.val = k then u (ix2 b f) else O (ix3 t b f) := by
  unfold tRow
  rw [row_write O _ _ _ k hk (at3_0 w k hk hw) rfl rfl]
  pointwise []

end

theorem tCand_at (vb a : Vec F S512 .f32) (D M : Vec F S16x512 .f32) (b : Fin 16) (f : Fin 512) :
    tCand vb a D M (ix2 b f) = FloatOps.subf (vb (ix1 f)) (FloatOps.mulf (a (ix1 f)) (FloatOps.subf (D (ix2 b f)) (M (ix2 b f)))) := by
  pointwise [tCand, spread_at]

theorem tRef_at (R : Vec F S16x512 .i32) (b : Fin 16) (f : Fin 512) : tRef R (ix2 b f) = Lane.inRef (R (ix2 b f)) := by
  pointwise [tRef]
  rfl

theorem tFires_at (vb th : Vec Ideal S512 .f32) (C : Vec Ideal S16x512 .f32) (R : Vec Ideal S16x512 .i32) (b : Fin 16) (f : Fin 512) :
    tFires vb th C R (ix2 b f) = IntOp.andi (IntOp.xori (Lane.inRef (R (ix2 b f))) 1#1)
      (FloatOps.cmpf (F := Ideal) (φ := .f32) .oge (FloatOps.absf (F := Ideal) (φ := .f32) (FloatOps.subf (F := Ideal) (φ := .f32) (C (ix2 b f)) (vb (ix1 f)))) (th (ix1 f))) := by
  unfold tFires
  pointwise [spread_at, tRef_at]
  refine congrArg₂ IntOp.andi ?_ rfl
  generalize Lane.inRef (R (ix2 b f)) = r
  revert r
  decide

theorem tCount_at (rs : Vec F S512 .i32) (K : Vec F S16x512 .i1) (R : Vec F S16x512 .i32) (b : Fin 16) (f : Fin 512) :
    tCount rs K R (ix2 b f) = Scalar.select (K (ix2 b f)) (rs (ix1 f)) (Scalar.select (Lane.inRef (R (ix2 b f))) (IntOp.subi (R (ix2 b f)) 1#32) (R (ix2 b f))) := by
  unfold tCount
  pointwise [tRef_at]

theorem tVolt_at (vb : Vec F S512 .f32) (C : Vec F S16x512 .f32) (K : Vec F S16x512 .i1) (R : Vec F S16x512 .i32) (b : Fin 16) (f : Fin 512) :
    tVolt vb C K R (ix2 b f) = Scalar.select (IntOp.ori (Lane.inRef (R (ix2 b f))) (K (ix2 b f))) (vb (ix1 f)) (C (ix2 b f)) := by
  unfold tVolt
  pointwise [tRef_at]

end Cert.ReferenceIdeal.Hand

end
-- ==== Proof.R.Loop.lean ====
module

public import proofs.«01_k».proof.Proof.R.Step
public import proofs.«01_k».proof.Proof.Gen.ReferenceIdeal.Run
public import Idealize.ShloMosaic.PureOps.Ideal
public import Idealize.ShloMosaic.Lib.Claim
public import Idealize.ShloMosaic.Lib.Pointwise
public import Idealize.ShloMosaic.Lib.WordCmp
public import Idealize.ShloMosaic.Lib.DynamicIndex
public import Idealize.ShloMosaic.Lib.Pipeline.Value

@[expose] public section

/-! The reference's loop, trip by trip, and the results it leaves. -/

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value Cert.Lane

/-- The loop's buffers before trip `k`: the inputs as the lanes have them, the state as their recursion has it, and the
rows of the trips done. -/
structure At (L : Fin 16 → Fin 512 → Lane Ideal) (k : ℕ) (V : Valuation τ sig (Elt Ideal)) : Prop where
  x : ∀ t b f, (V (Proc.devRef .tc main_v12_0) : Vec Ideal S4096x16x512 .f32) (ix3 t b f) = (L b f).x t.val
  io : ∀ t : Fin 4096, (V (Proc.devRef .tc main_v12_1) : Vec Ideal S4096 .i32) (ix1 t) = BitVec.ofNat 32 t.val
  g : ∀ b f, (V (Proc.devRef .tc main_v12_2) : Vec Ideal S512 .f32) (ix1 f) = (L b f).g
  a : ∀ b f, (V (Proc.devRef .tc main_v12_3) : Vec Ideal S512 .f32) (ix1 f) = (L b f).a
  vb : ∀ b f, (V (Proc.devRef .tc main_v12_4) : Vec Ideal S512 .f32) (ix1 f) = (L b f).vb
  th : ∀ b f, (V (Proc.devRef .tc main_v12_5) : Vec Ideal S512 .f32) (ix1 f) = (L b f).th
  rs : ∀ b f, (V (Proc.devRef .tc main_v12_6) : Vec Ideal S512 .i32) (ix1 f) = (L b f).rs
  cnt : ∀ i, (V (Proc.devRef .tc main_v12_7) : Vec Ideal S_ .i32) i = BitVec.ofNat 32 k
  ref : ∀ b f, (V (Proc.devRef .tc main_v12_8) : Vec Ideal S16x512 .i32) (ix2 b f) = ((L b f).run k).2
  ema : ∀ b f, (V (Proc.devRef .tc main_v12_9) : Vec Ideal S16x512 .f32) (ix2 b f) = ((L b f).run k).1
  va : ∀ (t : Fin 4096) b f, t.val < k → (V (Proc.devRef .tc main_v12_10) : Vec Ideal S4096x16x512 .f32) (ix3 t b f) = (L b f).runVolt t.val
  sp : ∀ (t : Fin 4096) b f, t.val < k → (V (Proc.devRef .tc main_v12_11) : Vec Ideal S4096x16x512 .i1) (ix3 t b f) = (L b f).runSpk t.val

section
variable {L : Fin 16 → Fin 512 → Lane Ideal} {k : ℕ} {V : Valuation τ sig (Elt Ideal)} (h : At L k V) (hk : k < 4096)
include h hk

theorem drive_at (b : Fin 16) (f : Fin 512) : (res_main_while0b_v23 V : Vec Ideal S16x512 .f32) (ix2 b f) = (L b f).drive k :=
  (tDrive_at _ k hk h.cnt _ _ b f).trans (by rw [h.x, h.g b]; rfl)

theorem mean_at (b : Fin 16) (f : Fin 512) : (res_main_while0b_v29 V : Vec Ideal S16x512 .f32) (ix2 b f) = (L b f).mean k ((L b f).run k).1 :=
  (tMean_at _ k hk h.cnt _ h.io (res_main_while0b_v23 V) _ b f).trans (by rw [drive_at h hk, h.ema]; rfl)

theorem cand_at (b : Fin 16) (f : Fin 512) : (res_main_while0b_v36 V : Vec Ideal S16x512 .f32) (ix2 b f)
    = (L b f).cand k ((L b f).mean k ((L b f).run k).1) :=
  (tCand_at _ _ (res_main_while0b_v23 V) (res_main_while0b_v29 V) b f).trans (by rw [drive_at h hk, mean_at h hk, h.vb b, h.a b]; rfl)

theorem fires_at (b : Fin 16) (f : Fin 512) : (res_main_while0b_v47 V : Vec Ideal S16x512 .i1) (ix2 b f) = (L b f).runSpk k :=
  (tFires_at _ _ (res_main_while0b_v36 V) _ b f).trans (by rw [cand_at h hk, h.ref, h.vb b, h.th b]; rfl)

/-- A trip keeps the description. -/
theorem At.step : At L (k + 1) (STEP V) where
  x := by rw [STEP_main_v12_0]; exact h.x
  io := by rw [STEP_main_v12_1]; exact h.io
  g := by rw [STEP_main_v12_2]; exact h.g
  a := by rw [STEP_main_v12_3]; exact h.a
  vb := by rw [STEP_main_v12_4]; exact h.vb
  th := by rw [STEP_main_v12_5]; exact h.th
  rs := by rw [STEP_main_v12_6]; exact h.rs
  cnt i := by
    rw [STEP_main_v12_7]
    show IntOp.addi ((V (Proc.devRef .tc main_v12_7) : Vec Ideal S_ .i32) i) 1#32 = _
    rw [h.cnt]
    exact (BitVec.ofNat_add k 1).symm
  ref b f := by
    rw [STEP_main_v12_8]
    exact (tCount_at _ (res_main_while0b_v47 V) _ b f).trans (by rw [fires_at h hk, h.ref, h.rs b]; rfl)
  ema b f := by
    rw [STEP_main_v12_9]
    exact mean_at h hk b f
  va t b f ht := by
    rw [STEP_main_v12_10]
    refine (tRow_at _ k hk h.cnt (V (Proc.devRef .tc main_v12_10)) (tVolt (V (Proc.devRef .tc main_v12_4)) (res_main_while0b_v36 V) (res_main_while0b_v47 V) (V (Proc.devRef .tc main_v12_8))) t b f).trans ?_
    by_cases e : t.val = k
    · rw [if_pos e, tVolt_at, fires_at h hk, cand_at h hk, h.ref, h.vb b, e]; rfl
    · rw [if_neg e]; exact h.va t b f (by omega)
  sp t b f ht := by
    rw [STEP_main_v12_11]
    refine (tRow_at _ k hk h.cnt (V (Proc.devRef .tc main_v12_11)) (res_main_while0b_v47 V) t b f).trans ?_
    by_cases e : t.val = k
    · rw [if_pos e, fires_at h hk, e]
    · rw [if_neg e]; exact h.sp t b f (by omega)

end

/-- From the entry on, for every trip. -/
theorem At.steps {L : Fin 16 → Fin 512 → Lane Ideal} {V : Valuation τ sig (Elt Ideal)} (h : At L 0 V) : ∀ k, k ≤ 4096 → At L k (STEP^[k] V)
  | 0, _ => h
  | k + 1, hk => by
    rw [Function.iterate_succ_apply']
    exact At.step (At.steps h k (by omega)) (by omega)

/-- The first result: the bias, then what each step leaves. -/
theorem out_va {L : Fin 16 → Fin 512 → Lane Ideal} {V : Valuation τ sig (Elt Ideal)} (h : At L 4096 V)
    (hb : ∀ b f, (V (Proc.devRef .tc main_arg1) : Vec Ideal S512 .f32) (ix1 f) = (L b f).vb) (b : Fin 16) (t : Fin 4097) (f : Fin 512) :
    (out_main_v15 V : Vec Ideal S16x4097x512 .f32) (ix3 b t f) = if t.val = 0 then (L b f).vb else (L b f).runVolt (t.val - 1) := by
  unfold out_main_v15
  generalize hA : (V (Proc.devRef .tc main_arg1) : Vec Ideal S512 .f32) = A at hb
  have hva := h.va
  generalize hO : (V (Proc.devRef .tc main_v12_10) : Vec Ideal S4096x16x512 .f32) = O at hva
  pointwise []
  by_cases e : t.val = 0
  · rw [dif_pos (by omega), if_pos e, hb b]
  · rw [dif_neg (by omega), if_neg e]
    exact hva _ b f (by show t.val - 1 < 4096; omega)

/-- The second: the firings, the last one twice. -/
theorem out_sp {L : Fin 16 → Fin 512 → Lane Ideal} {V : Valuation τ sig (Elt Ideal)} (h : At L 4096 V) (b : Fin 16) (t : Fin 4097) (f : Fin 512) :
    (out_main_v18 V : Vec Ideal S16x4097x512 .i1) (ix3 b t f) = (L b f).runSpk (min t.val 4095) := by
  unfold out_main_v18
  have hsp := h.sp
  generalize hO : (V (Proc.devRef .tc main_v12_11) : Vec Ideal S4096x16x512 .i1) = O at hsp
  pointwise []
  by_cases e : t.val < 4096
  · rw [dif_pos e, hsp _ b f e, show min t.val 4095 = t.val by omega]
  · rw [dif_neg e, hsp _ b f (by show 4095 + (t.val - 4096) < 4096; omega), show min t.val 4095 = 4095 by omega]
    exact congrArg (L b f).runSpk (by show 4095 + (t.val - 4096) = 4095; omega)

end Cert.ReferenceIdeal.Hand

end
-- ==== Proof.R.Entry.lean ====
module

public import proofs.«01_k».proof.Proof.R.Loop
public import proofs.«01_k».proof.Proof.Args
public import proofs.«01_k».proof.Proof.Gen.ReferenceIdeal.Run
public import Idealize.ShloMosaic.PureOps.Ideal
public import Idealize.ShloMosaic.Lib.Claim
public import Idealize.ShloMosaic.Lib.Pointwise
public import Idealize.ShloMosaic.Lib.WordCmp
public import Idealize.ShloMosaic.Lib.DynamicIndex
public import Idealize.ShloMosaic.Lib.Pipeline.Value

@[expose] public section

/-! What the reference's loop is entered with, and the results off the arguments. -/

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value Cert.Lane

variable (m : (ℓ : Loc nD τ sig) → Buf (Elt Ideal) ℓ) (c : Dev nD)

/-- The neurons the reference's arguments describe. -/
def lane : Fin 16 → Fin 512 → Lane Ideal := ofArgs
    (fun b t f => (m ((c : Thread nD τ).loc main_arg0) : Vec Ideal S16x4096x512 .f32) (ix3 b t f))
    (fun f => (m ((c : Thread nD τ).loc main_arg1) : Vec Ideal S512 .f32) (ix1 f)) (fun f => (m ((c : Thread nD τ).loc main_arg2) : Vec Ideal S512 .f32) (ix1 f))
    (fun f => (m ((c : Thread nD τ).loc main_arg3) : Vec Ideal S512 .f32) (ix1 f)) (fun f => (m ((c : Thread nD τ).loc main_arg4) : Vec Ideal S512 .f32) (ix1 f))
    (fun f => (m ((c : Thread nD τ).loc main_arg5) : Vec Ideal S512 .f32) (ix1 f))

theorem entry : At (lane m c) 0 (StableHlo.entryContents preI m c) where
  x t b f := by
    simp only [StableHlo.entryContents, StableHlo.afterL_cons, StableHlo.afterL_nil]
    after_results
    refine Eq.trans (b := (m ((c : Thread nD τ).loc main_arg0) : Vec Ideal S16x4096x512 .f32) (ix3 b t f)) ?_ ?_
    · rw [id_eq]
      pointwise []
    · exact congrArg (fun k => (m ((c : Thread nD τ).loc main_arg0) : Vec Ideal S16x4096x512 .f32) (ix3 b k f))
        (Fin.ext (by show t.val = min t.val 4095; omega))
  io t := by
    simp only [StableHlo.entryContents, StableHlo.afterL_cons, StableHlo.afterL_nil]
    after_results
    rw [id_eq]
    rfl
  g b f := by
    simp only [StableHlo.entryContents, StableHlo.afterL_cons, StableHlo.afterL_nil]
    after_results
    rfl
  a b f := by
    simp only [StableHlo.entryContents, StableHlo.afterL_cons, StableHlo.afterL_nil]
    after_results
    rfl
  vb b f := by
    simp only [StableHlo.entryContents, StableHlo.afterL_cons, StableHlo.afterL_nil]
    after_results
    rfl
  th b f := by
    simp only [StableHlo.entryContents, StableHlo.afterL_cons, StableHlo.afterL_nil]
    after_results
    rfl
  rs b f := by
    simp only [StableHlo.entryContents, StableHlo.afterL_cons, StableHlo.afterL_nil]
    after_results
    rw [id_eq]
    rfl
  cnt i := by
    simp only [StableHlo.entryContents, StableHlo.afterL_cons, StableHlo.afterL_nil]
    after_results
    rfl
  ref b f := by
    simp only [StableHlo.entryContents, StableHlo.afterL_cons, StableHlo.afterL_nil]
    after_results
    rw [id_eq]
    rfl
  ema b f := by
    simp only [StableHlo.entryContents, StableHlo.afterL_cons, StableHlo.afterL_nil]
    after_results
    rw [id_eq]
    rfl
  va t b f ht := absurd ht (Nat.not_lt_zero _)
  sp t b f ht := absurd ht (Nat.not_lt_zero _)

/-- What the loop leaves its buffers with. -/
theorem left : At (lane m c) 4096 (STEP^[4096] (StableHlo.entryContents preI m c)) := (entry m c).steps 4096 (Nat.le_refl _)

/-- The first result, entry by entry. -/
theorem va_entry (b : Fin 16) (t : Fin 4097) (f : Fin 512) :
    (out_main_v15 (STEP^[4096] (StableHlo.entryContents preI m c)) : Vec Ideal S16x4097x512 .f32) (ix3 b t f)
      = if t.val = 0 then (lane m c b f).vb else (lane m c b f).runVolt (t.val - 1) :=
  out_va (left m c) (fun b f => by rw [iter_main_arg1]; rfl) b t f

/-- The second. -/
theorem sp_entry (b : Fin 16) (t : Fin 4097) (f : Fin 512) :
    (out_main_v18 (STEP^[4096] (StableHlo.entryContents preI m c)) : Vec Ideal S16x4097x512 .i1) (ix3 b t f)
      = (lane m c b f).runSpk (min t.val 4095) :=
  out_sp (left m c) b t f

end Cert.ReferenceIdeal.Hand

end
-- ==== Proof.Sim.lean ====
module

public import proofs.«01_k».proof.Proof.R.Lane
public import Idealize.ShloMosaic.PureOps.Ideal

@[expose] public section

/-! The two recursions leave the same voltages and firings over the extended reals. They differ at the first step alone:
the kernel moves the mean from the drive towards the drive, the reference sets it to the drive. That is the same number
unless the drive is plus infinity, where the kernel's mean is minus infinity. Then either the coupling is zero and the mean
plays no part, or the candidate voltage is infinite on both sides, both fire, and both leave the bias; and one step later
both means are minus infinity. -/

set_option maxRecDepth 16384

noncomputable section

namespace Cert.Lane

open Idealize.ShloMosaic

/-! ## Extended reals -/

theorem sub_top (x : EReal) : x - ⊤ = ⊥ := by
  rw [sub_eq_add_neg, EReal.neg_top, EReal.add_bot]

theorem sub_bot (x : EReal) : x - ⊥ = ⊤ ∨ x - ⊥ = ⊥ := by
  rw [sub_eq_add_neg, EReal.neg_bot]
  by_cases h : x = ⊥
  · exact .inr (by rw [h, EReal.bot_add])
  · exact .inl (EReal.add_top_of_ne_bot h)

/-- The absolute value of an infinity, less anything, is plus infinity. -/
theorem abs_inf (c v : EReal) (h : c = ⊤ ∨ c = ⊥) : max (c - v) (-(c - v)) = ⊤ := by
  have hi : c - v = ⊤ ∨ c - v = ⊥ := by
    rcases h with rfl | rfl
    · rw [sub_eq_add_neg]
      by_cases hv : -v = ⊥
      · exact .inr (by rw [hv, EReal.add_bot])
      · exact .inl (EReal.top_add_of_ne_bot hv)
    · exact .inr (by rw [sub_eq_add_neg, EReal.bot_add])
  rcases hi with e | e <;> rw [e] <;> simp

/-- A nonzero number times an infinity is an infinity. -/
theorem mul_inf (a c : EReal) (ha : a ≠ 0) (h : c = ⊤ ∨ c = ⊥) : a * c = ⊤ ∨ a * c = ⊥ := by
  rcases lt_or_gt_of_ne ha with n | n <;> rcases h with rfl | rfl
  · exact .inr (EReal.mul_top_of_neg n)
  · exact .inl (EReal.mul_bot_of_neg n)
  · exact .inl (EReal.mul_top_of_pos n)
  · exact .inr (EReal.mul_bot_of_pos n)

/-- Anything less an infinity is an infinity. -/
theorem sub_inf (v c : EReal) (h : c = ⊤ ∨ c = ⊥) : v - c = ⊤ ∨ v - c = ⊥ := by
  rcases h with rfl | rfl
  · exact .inr (sub_top v)
  · exact sub_bot v

/-- A mean moved towards itself is itself, or plus infinity moved to minus infinity. -/
theorem move_self (r : ℝ) (hr : 0 < r) (d : EReal) : d + (r : EReal) * (d - d) = d ∨ (d = ⊤ ∧ d + (r : EReal) * (d - d) = ⊥) := by
  have hp : (0 : EReal) < r := EReal.coe_pos.mpr hr
  induction d with
  | bot => exact .inl (EReal.bot_add _)
  | coe x => exact .inl (by rw [← EReal.coe_sub, sub_self, EReal.coe_zero, mul_zero, add_zero])
  | top => exact .inr ⟨rfl, by rw [sub_top, EReal.mul_bot_of_pos hp, EReal.add_bot]⟩

/-- From plus infinity a mean moves to minus infinity. -/
theorem move_top (r : ℝ) (hr : 0 < r) (d : EReal) : (⊤ : EReal) + (r : EReal) * (d - ⊤) = ⊥ := by
  rw [sub_top, EReal.mul_bot_of_pos (EReal.coe_pos.mpr hr), EReal.add_bot]

/-- The smoothing factor is a positive number. -/
theorem alpha_pos : ∃ r : ℝ, 0 < r ∧ (Lane.alpha (F := Ideal) : EReal) = (r : EReal) := by
  refine ⟨8589935 * (2 : ℝ) ^ (-33 : Int), by positivity, ?_⟩
  show Ideal.ofBits .f32 0x3A83126F#32 = _
  simp [Ideal.ofBits, Ideal.ieee, -EReal.coe_mul]

namespace Lane

variable (L : Lane Ideal)

theorem smooth_self : L.smooth 0 (L.drive 0) = L.drive 0 ∨ (L.drive 0 = (⊤ : EReal) ∧ L.smooth 0 (L.drive 0) = (⊥ : EReal)) := by
  obtain ⟨r, hr, e⟩ := alpha_pos
  show (L.drive 0 : EReal) + (alpha (F := Ideal) : EReal) * ((L.drive 0 : EReal) - L.drive 0) = L.drive 0
    ∨ (L.drive 0 = (⊤ : EReal) ∧ (L.drive 0 : EReal) + (alpha (F := Ideal) : EReal) * ((L.drive 0 : EReal) - L.drive 0) = (⊥ : EReal))
  rw [e]
  exact move_self r hr _

/-- Two infinite means move to the same. -/
theorem smooth_inf (t : ℕ) : L.smooth t (⊤ : EReal) = L.smooth t (⊥ : EReal) := by
  obtain ⟨r, hr, e⟩ := alpha_pos
  show (⊤ : EReal) + (alpha (F := Ideal) : EReal) * ((L.drive t : EReal) - ⊤) = (⊥ : EReal) + (alpha (F := Ideal) : EReal) * ((L.drive t : EReal) - ⊥)
  rw [e, move_top r hr, EReal.bot_add]

/-- An infinite candidate voltage is over any threshold. -/
theorem over (t : ℕ) (e : EReal) (h : L.cand t e = (⊤ : EReal) ∨ L.cand t e = (⊥ : EReal)) :
    (FloatOps.cmpf (F := Ideal) (φ := .f32) .oge (FloatOps.absf (F := Ideal) (φ := .f32) (FloatOps.subf (F := Ideal) (φ := .f32) (L.cand t e) L.vb)) L.th) = 1#1 := by
  show BitVec.ofBool (decide ((L.th : EReal) ≤ max ((L.cand t e : EReal) - L.vb) (-((L.cand t e : EReal) - L.vb)))) = 1#1
  rw [abs_inf _ _ h, decide_eq_true le_top]
  rfl

/-- With a coupling, a drive or a mean at an infinity makes the candidate infinite. -/
theorem cand_inf (t : ℕ) (e : EReal) (ha : (L.a : EReal) ≠ 0) (hd : (L.drive t : EReal) - e = ⊤ ∨ (L.drive t : EReal) - e = ⊥) :
    L.cand t e = (⊤ : EReal) ∨ L.cand t e = (⊥ : EReal) :=
  sub_inf (L.vb : EReal) _ (mul_inf (L.a : EReal) _ ha hd)

/-- At a drive of plus infinity the two means the two programs take at the first step fire alike and leave the same voltage. -/
theorem first_alike (h : L.drive 0 = (⊤ : EReal)) :
    L.fires 0 (⊤ : EReal) 0#32 = L.fires 0 (⊥ : EReal) 0#32 ∧ L.volt 0 (⊤ : EReal) 0#32 = L.volt 0 (⊥ : EReal) 0#32 := by
  by_cases ha : (L.a : EReal) = 0
  · have hc : L.cand 0 (⊤ : EReal) = L.cand 0 (⊥ : EReal) := by
      show (L.vb : EReal) - (L.a : EReal) * _ = (L.vb : EReal) - (L.a : EReal) * _
      rw [ha, zero_mul, zero_mul]
    have hf : L.fires 0 (⊤ : EReal) 0#32 = L.fires 0 (⊥ : EReal) 0#32 := by unfold fires; rw [hc]
    exact ⟨hf, by unfold volt; rw [hf, hc]⟩
  · have f1 : L.fires 0 (⊤ : EReal) 0#32 = 1#1 := by
      unfold fires
      rw [over L 0 _ (cand_inf L 0 _ ha (.inr (sub_top _)))]
      rfl
    have f2 : L.fires 0 (⊥ : EReal) 0#32 = 1#1 := by
      unfold fires
      rw [over L 0 _ (cand_inf L 0 _ ha (sub_bot _))]
      rfl
    exact ⟨f1.trans f2.symm, by unfold volt; rw [f1, f2]; rfl⟩

/-- The first step of the reference sets the mean. -/
theorem mean_zero (e : EReal) : L.mean 0 e = L.drive 0 := rfl

/-- Every later step moves it. -/
theorem mean_succ (t : ℕ) (ht : t + 1 < 4096) (e : EReal) : L.mean (t + 1) e = L.smooth (t + 1) e := by
  unfold mean
  rw [show IntOp.cmpi .eq (BitVec.ofNat 32 (t + 1)) 0#32 = 0#1 from ?_]
  · rfl
  · show BitVec.ofBool (BitVec.ofNat 32 (t + 1) == 0#32) = 0#1
    rw [show (BitVec.ofNat 32 (t + 1) == 0#32) = false from ?_]
    · rfl
    · rw [beq_eq_false_iff_ne]
      intro h
      have := congrArg BitVec.toNat h
      simp at this
      omega

/-- At each step both fire alike, leave the same voltage and, after it, the same count. -/
theorem alike : ∀ t, t < 4096 → (L.spk t = L.runSpk t ∧ L.volt t (L.smooth t (L.st t).1) (L.st t).2 = L.runVolt t
    ∧ (L.st (t + 1)).2 = (L.run (t + 1)).2)
    ∧ ((L.st (t + 1)).1 = (L.run (t + 1)).1 ∨ ((L.run (t + 1)).1 = (⊤ : EReal) ∧ (L.st (t + 1)).1 = (⊥ : EReal)))
  | 0, _ => by
    have key : L.fires 0 (L.smooth 0 (L.drive 0)) 0#32 = L.fires 0 (L.drive 0) 0#32 ∧ L.volt 0 (L.smooth 0 (L.drive 0)) 0#32 = L.volt 0 (L.drive 0) 0#32 := by
      rcases L.smooth_self with e | ⟨e1, e2⟩
      · rw [e]; exact ⟨rfl, rfl⟩
      · rw [e2, e1]; exact ⟨(L.first_alike e1).1.symm, (L.first_alike e1).2.symm⟩
    refine ⟨⟨key.1, key.2, ?_⟩, ?_⟩
    · show L.count 0 (L.smooth 0 (L.drive 0)) 0#32 = L.count 0 (L.drive 0) 0#32
      unfold count
      rw [key.1]
    · rcases L.smooth_self with e | e
      · exact .inl e
      · exact .inr e
  | t + 1, ht => by
    obtain ⟨⟨_, _, hr⟩, he⟩ := alike t (by omega)
    have hm : L.smooth (t + 1) (L.st (t + 1)).1 = L.mean (t + 1) (L.run (t + 1)).1 := by
      rw [mean_succ L t ht]
      rcases he with e | ⟨e1, e2⟩
      · rw [e]
      · rw [e1, e2, smooth_inf]
    refine ⟨⟨?_, ?_, ?_⟩, .inl ?_⟩
    · unfold spk runSpk; rw [hm, hr]
    · unfold runVolt; rw [hm, hr]
    · show L.count (t + 1) (L.smooth (t + 1) (L.st (t + 1)).1) (L.st (t + 1)).2 = L.count (t + 1) (L.mean (t + 1) (L.run (t + 1)).1) (L.run (t + 1)).2
      rw [hm, hr]
    · exact hm

/-- The firings are the same. -/
theorem spk_eq (t : ℕ) (ht : t < 4096) : L.spk t = L.runSpk t := (L.alike t ht).1.1

/-- The voltages are the same. -/
theorem va_eq (t : ℕ) (ht : t ≤ 4096) : L.va t = if t = 0 then L.vb else L.runVolt (t - 1) := by
  match t, ht with
  | 0, _ => rfl
  | t + 1, ht => exact (L.alike t (by omega)).1.2.1

end Lane

end Cert.Lane

end
-- ==== Proof.Agree.lean ====
module

public import proofs.«01_k».proof.Proof.K.Final
public import proofs.«01_k».proof.Proof.R.Entry
public import proofs.«01_k».proof.Proof.Sim

@[expose] public section

/-! The two programs' runs beside each other: both results are the same arrays. -/

set_option maxRecDepth 16384

noncomputable section

namespace Cert.Agree

open Idealize.ShloMosaic Idealize.ShloMosaic.TcCoe Idealize.ShloMosaic.Tactic
open Idealize.SL.Sem
open Cert.Lane

/-- What the kernel leaves in its first result. -/
def va (m : (ℓ : Loc Cert.KernelIdeal.nD Cert.KernelIdeal.τ Cert.KernelIdeal.sig) → Buf (Elt Ideal) ℓ) (c : Dev Cert.KernelIdeal.nD) :
    Vec Ideal Cert.KernelIdeal.S16x4097x512 .f32 :=
  transpose Cert.KernelIdeal.S16x4097x512 [1, 0, 2] (Cert.KernelIdeal.Hand.allVa m c) Cert.KernelIdeal.Gen.transposes_S4097x16x512_S16x4097x512_1_0_2

/-- What it leaves in its second. -/
def sp (m : (ℓ : Loc Cert.KernelIdeal.nD Cert.KernelIdeal.τ Cert.KernelIdeal.sig) → Buf (Elt Ideal) ℓ) (c : Dev Cert.KernelIdeal.nD) :
    Vec Ideal Cert.KernelIdeal.S16x4097x512 .i1 :=
  cmpi .ne (transpose Cert.KernelIdeal.S16x4097x512 [1, 0, 2] (Cert.KernelIdeal.Hand.allSp m c) Cert.KernelIdeal.Gen.transposes_S4097x16x512_S16x4097x512_1_0_2)
    (broadcastInDim Cert.KernelIdeal.S16x4097x512 ![] Cert.KernelIdeal.Gen.bcast_S_S16x4097x512 (constantI Cert.KernelIdeal.S_ 8 0#8 : IVec Cert.KernelIdeal.S_ 8))

section
open Cert.KernelIdeal Cert.KernelIdeal.Gen

/-- The kernel's run. -/
theorem kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v12) = va m c
      ∧ r.2.mem ((c.tc : Thread nD τ).loc main_v16) = sp m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1 c).2 main_v12 (Pipeline.mem_restRefs_of main_v12 (by decide) (by decide))).trans (Cert.KernelIdeal.Hand.left_va m c),
     ((h.1 c).2 main_v16 (Pipeline.mem_restRefs_of main_v16 (by decide) (by decide))).trans (Cert.KernelIdeal.Hand.left_sp m c),
     h.2.1 c⟩) (θ_run_and (Cert.KernelIdeal.Hand.run m g) (Cert.KernelIdeal.Hand.frame m g))

end

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
include h0 h1 h2 h3 h4 h5

/-- From the same arguments both programs work on the same neurons. -/
theorem lanes (b : Fin 16) (f : Fin 512) : Cert.ReferenceIdeal.Hand.lane m' c b f = Cert.KernelIdeal.Hand.lane m c b f := by
  rw [Cert.KernelIdeal.Hand.lane_eq]
  unfold Cert.ReferenceIdeal.Hand.lane
  rw [h0, h1, h2, h3, h4, h5]

/-- The first results agree. -/
theorem va_agree : Cert.ReferenceIdeal.Value.out_main_v15 (Cert.ReferenceIdeal.Value.STEP^[4096] (StableHlo.entryContents Cert.ReferenceIdeal.Value.preI m' c)) = va m c := by
  refine funext fun j : Cert.KernelIdeal.S16x4097x512.Idx => ?_
  idx_vars j
  refine (Cert.ReferenceIdeal.Hand.va_entry m' c j0 j1 j2).trans (Eq.trans ?_ (Cert.KernelIdeal.Hand.va_entry m c j0 j1 j2).symm)
  rw [lanes m m' c h0 h1 h2 h3 h4 h5, Lane.va_eq _ _ (by omega)]

/-- The second results agree. -/
theorem sp_agree : Cert.ReferenceIdeal.Value.out_main_v18 (Cert.ReferenceIdeal.Value.STEP^[4096] (StableHlo.entryContents Cert.ReferenceIdeal.Value.preI m' c)) = sp m c := by
  refine funext fun j : Cert.KernelIdeal.S16x4097x512.Idx => ?_
  idx_vars j
  refine (Cert.ReferenceIdeal.Hand.sp_entry m' c j0 j1 j2).trans (Eq.trans ?_ (Cert.KernelIdeal.Hand.sp_entry m c j0 j1 j2).symm)
  rw [lanes m m' c h0 h1 h2 h3 h4 h5, Lane.spk_eq _ _ (by omega)]

end

end Cert.Agree

end
-- ==== Proof.Same.lean ====
module

public import proofs.«01_k».proof.Defs
public import proofs.«01_k».proof.Proof.Gen.Kernel
public import proofs.«01_k».proof.Proof.K.Run

@[expose] public section

/-! The kernel and the ideal program are one text, read at two kinds of numbers. What is proved of that text at any numbers
holds so of the kernel over floats. -/

set_option maxRecDepth 65536

noncomputable section

namespace Cert.Kernel.Hand

open Idealize.ShloMosaic Idealize.ShloMosaic.TcCoe
open Idealize.SL.Sem

variable {F : FTy → Type} [FloatOps F]

/-- The two texts call their regions' bodies by the same labels. -/
theorem labels_same : @Cert.Kernel.Λ₀ Cert.Kernel.Gen.facts = @Cert.KernelIdeal.Λ₀ Cert.KernelIdeal.Gen.facts := rfl

set_option maxHeartbeats 4000000 in
/-- The body at a grid point is the same. -/
theorem scan_same : @Cert.Kernel.cc0_faneuron_scan F _ Cert.Kernel.Gen.facts = @Cert.KernelIdeal.cc0_faneuron_scan F _ Cert.KernelIdeal.Gen.facts := rfl

set_option maxHeartbeats 4000000 in
/-- So are the body tables. -/
theorem defs₀_same : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig)) ?_
  funext l x
  match l, x with
  | 0, (t, s) => exact rfl
  | ⟨_ + 1, h⟩, _ => exact absurd h (Nat.not_lt.2 (Nat.le_add_left _ _))

set_option maxHeartbeats 4000000 in
/-- So are the tables with the pipeline's own labels. -/
theorem defs_same : @Cert.Kernel.defs F _ Cert.Kernel.Gen.facts = @Cert.KernelIdeal.defs F _ Cert.KernelIdeal.Gen.facts := by
  unfold Cert.Kernel.defs Cert.KernelIdeal.defs
  exact congrArg (Pipeline.defs (Cert.KernelIdeal.pcfgs (F := F))) defs₀_same

set_option maxHeartbeats 4000000 in
/-- And so are the programs. -/
theorem main_same : @Cert.Kernel.main F _ Cert.Kernel.Gen.facts = @Cert.KernelIdeal.main F _ Cert.KernelIdeal.Gen.facts := rfl

set_option maxHeartbeats 4000000 in
/-- The kernel over floats ends, its arguments unchanged and every counter at zero. -/
theorem frame : Cert.quiescent_Kernel (hKernel := Cert.Kernel.Gen.facts) := by
  intro m ρ _
  have key : ∀ d, d = Cert.KernelIdeal.defs (F := Bits) → ∀ p, p = Cert.KernelIdeal.main (F := Bits) →
      ∀ Q, θ_run (Cert.KernelIdeal.defs (F := Bits)) (onTc (τ := Cert.KernelIdeal.τ) (Cert.KernelIdeal.main (F := Bits))) ⟨m, fun _ => 0, ρ⟩ Q →
      θ_run d (onTc (τ := Cert.KernelIdeal.τ) p) ⟨m, fun _ => 0, ρ⟩ Q := by
    rintro _ rfl _ rfl Q h
    exact h
  exact key _ defs_same _ main_same _ (Cert.KernelIdeal.Hand.frame (F := Bits) m ρ)

end Cert.Kernel.Hand

end
-- ==== Proof.lean ====
/- The claims about the spiking neuron's scan, put together: the three programs' frames, and that over the extended
   reals the kernel and the reference leave the same two results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.ReferenceIdeal.Value.run (F := Ideal) m ρ)

/-- From the same arguments the kernel and the reference leave the same two results. -/
theorem same_results : Cert.algebraic_KernelIdeal_ReferenceIdeal (hKernelIdeal := Cert.KernelIdeal.Gen.facts)
    (hReferenceIdeal := Cert.ReferenceIdeal.Gen.facts) := by
  intro m g m' g' _ hargs
  refine ⟨fun c => Cert.Agree.va m c, fun c => Cert.Agree.sp m c, Cert.Agree.kernel m g, ?_⟩
  refine (θ_run Cert.ReferenceIdeal.defs _ _).mono (fun r h c => ?_) (Cert.ReferenceIdeal.Value.run (F := Ideal) m' g')
  obtain ⟨h0, h1, h2, h3, h4, h5⟩ := hargs c
  exact ⟨(h c).1.trans (Cert.Agree.va_agree m m' c h0 h1 h2 h3 h4 h5),
    (h c).2.1.trans (Cert.Agree.sp_agree m m' c h0 h1 h2 h3 h4 h5), (h c).2.2⟩

/-- All five claims. -/
theorem claim : Cert.Claim :=
  ⟨Cert.Kernel.Gen.facts, Cert.KernelIdeal.Gen.facts, Cert.ReferenceIdeal.Gen.facts,
    Cert.Kernel.Hand.frame, fun m ρ _ => Cert.KernelIdeal.Hand.frame m ρ, reference_frame, trivial, same_results⟩

end Cert.Proof

end
